-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_nonneg [hPre_ids_nonneg : Cert.Pre_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_nonneg [hPre_ids_nonneg : Cert.Pre_ids_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_nonneg [hKernelIdeal : Cert.KernelIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_nonneg [hReferenceIdeal : Cert.ReferenceIdeal.Facts] [hPre_ids_nonneg : Cert.Pre_ids_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_nonneg [hKernelIdeal : Cert.KernelIdeal.Facts] [hReferenceIdeal : Cert.ReferenceIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_nonneg : Cert.Pre_ids_nonneg.Facts),
    quiescent_Kernel (hKernel := hKernel)
    ∧ quiescent_KernelIdeal (hKernelIdeal := hKernelIdeal)
    ∧ quiescent_KernelIdeal_pre_ids_nonneg (hKernelIdeal := hKernelIdeal) (hPre_ids_nonneg := hPre_ids_nonneg)
    ∧ quiescent_ReferenceIdeal (hReferenceIdeal := hReferenceIdeal)
    ∧ quiescent_ReferenceIdeal_pre_ids_nonneg (hReferenceIdeal := hReferenceIdeal) (hPre_ids_nonneg := hPre_ids_nonneg)
    ∧ preserves_Kernel_KernelIdeal
    ∧ algebraic_KernelIdeal_ReferenceIdeal_pre_ids_nonneg (hKernelIdeal := hKernelIdeal) (hReferenceIdeal := hReferenceIdeal) (hPre_ids_nonneg := hPre_ids_nonneg)
-- ==== Pre_ids_nonneg.lean ====
abbrev S4x4096 : Shape := ⟨2, ![4, 4096]⟩
abbrev S8192x2048 : Shape := ⟨2, ![8192, 2048]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : IVec S4x4096 32) (main_arg1 : FVec F S8192x2048 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 1 := constantI S_ 1 1#1
  let main_v2 : IVec S_ 1 := (fun x v => Host.reduce IntOp.andi x v reducesTo_S4x4096_S_d0_1 h_S_) main_v1 main_c_0
  main_v2
-- ==== Kernel.lean ====
abbrev S4x4096 : Shape := ⟨2, ![4, 4096]⟩
abbrev S8192x2048 : Shape := ⟨2, ![8192, 2048]⟩
abbrev S32x32x16 : Shape := ⟨3, ![32, 32, 16]⟩
abbrev S4096 : Shape := ⟨1, ![4096]⟩
abbrev S32x16 : Shape := ⟨2, ![32, 16]⟩
abbrev S_ : Shape := ⟨0, ![]⟩
abbrev S1x4096 : Shape := ⟨2, ![1, 4096]⟩
abbrev S16 : Shape := ⟨1, ![16]⟩
abbrev S1x16 : Shape := ⟨2, ![1, 16]⟩
abbrev S1x32x16 : Shape := ⟨3, ![1, 32, 16]⟩
abbrev S8x1x2048 : Shape := ⟨3, ![8, 1, 2048]⟩
abbrev S16384x2048 : Shape := ⟨2, ![16384, 2048]⟩
abbrev S1x1x2048 : Shape := ⟨3, ![1, 1, 2048]⟩
abbrev S16x2048 : Shape := ⟨2, ![16, 2048]⟩
abbrev S2048x2048 : Shape := ⟨2, ![2048, 2048]⟩
abbrev S2048 : Shape := ⟨1, ![2048]⟩
abbrev S2048x1 : Shape := ⟨2, ![2048, 1]⟩
abbrev S2048x16 : Shape := ⟨2, ![2048, 16]⟩
abbrev S1x2048 : Shape := ⟨2, ![1, 2048]⟩
abbrev S1 : Shape := ⟨1, ![1]⟩
abbrev S1x1 : Shape := ⟨2, ![1, 1]⟩
abbrev S1x1x1 : Shape := ⟨3, ![1, 1, 1]⟩
abbrev S4x4096x2048 : Shape := ⟨3, ![4, 4096, 2048]⟩

abbrev nBuf : Table → Nat
  | .hbm => 6
  | .local .tc .vmem => 5
  | .local .tc .smem => 2
  | .local .scVector .vmem => 2
  | _ => 0

abbrev bufTy : (tb : Table) → Fin (nBuf tb) → BufTy
  | .hbm, ⟨0, _⟩ => ⟨S4x4096, .i32⟩
  | .hbm, ⟨1, _⟩ => ⟨S8192x2048, .f32⟩
  | .hbm, ⟨2, _⟩ => ⟨S32x32x16, .i32⟩
  | .hbm, ⟨3, _⟩ => ⟨S8x1x2048, .i32⟩
  | .hbm, ⟨4, _⟩ => ⟨S16384x2048, .f32⟩
  | .hbm, ⟨5, _⟩ => ⟨S4x4096x2048, .f32⟩
  | .local .tc .vmem, ⟨0, _⟩ => ⟨S1x1x2048, .i32⟩
  | .local .tc .vmem, ⟨1, _⟩ => ⟨S1x1x2048, .i32⟩
  | .local .tc .vmem, ⟨2, _⟩ => ⟨S16x2048, .f32⟩
  | .local .tc .vmem, ⟨3, _⟩ => ⟨S2048x2048, .f32⟩
  | .local .tc .vmem, ⟨4, _⟩ => ⟨S2048x2048, .f32⟩
  | .local .tc .smem, ⟨0, _⟩ => ⟨S1x1x2048, .i32⟩
  | .local .tc .smem, ⟨1, _⟩ => ⟨S1x1x2048, .i32⟩
  | .local .scVector .vmem, ⟨0, _⟩ => ⟨S4096, .i32⟩
  | .local .scVector .vmem, ⟨1, _⟩ => ⟨S32x16, .i32⟩
  | _, _ => ⟨S4x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg1_0 : Ref sig .tc := ⟨.smem, 0, rfl⟩
abbrev cc1_stg1_1 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_23_r0 : BitVec 32 := 0#32
  ![v18.toNat, 0]
@[reducible] def k0_t1_loop (i : grid0.Coords) : Scf.Loop 32 :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_10 : BitVec 32 := 0#32
  let v33 : BitVec 1 := Scalar.cmpi .sgt v29 c0_i32_10
  let v34 : BitVec 32 := Scalar.extui v33
  let c0_i32_11 : BitVec 32 := 0#32
  let v35 : BitVec 1 := Scalar.cmpi .slt v29 c0_i32_11
  let v36 : BitVec 32 := Scalar.extui v35
  let v37 : BitVec 32 := Scalar.subi v34 v36
  let c16_i32 : BitVec 32 := 16#32
  let c0_i32_12 : BitVec 32 := 0#32
  let v38 : BitVec 1 := Scalar.cmpi .sgt c16_i32 c0_i32_12
  let v39 : BitVec 32 := Scalar.extui v38
  let c0_i32_13 : BitVec 32 := 0#32
  let v40 : BitVec 1 := Scalar.cmpi .slt c16_i32 c0_i32_13
  let v41 : BitVec 32 := Scalar.extui v40
  let v42 : BitVec 32 := Scalar.subi v39 v41
  let v43 : BitVec 1 := Scalar.cmpi .ne v37 v42
  let v44 : BitVec 32 := Scalar.remsi v29 c16_i32
  let c0_i32_14 : BitVec 32 := 0#32
  let v45 : BitVec 1 := Scalar.cmpi .ne v44 c0_i32_14
  let v46 : BitVec 1 := Scalar.andi v43 v45
  let v32 : BitVec 32 := Scalar.divsi v29 c16_i32
  let c1_i32_15 : BitVec 32 := 1#32
  let v47 : BitVec 32 := Scalar.subi v32 c1_i32_15
  let v48 : BitVec 32 := Scalar.select v46 v47 v32
  let v49 : BitVec 32 := Scalar.subi v48 c0_i32_16
  let c1_i32_17 : BitVec 32 := 1#32
  let v51 : BitVec 32 := Scalar.divsi v49 c1_i32_17
  let v52 : BitVec 32 := Scalar.muli v51 c1_i32_17
  let v53 : BitVec 32 := Scalar.addi c0_i32_16 v52
  let c1_i32_18 : BitVec 32 := 1#32
  ⟨c0_i32_16, v53, c1_i32_18⟩
def k0_off2 (i : grid0.Coords) (k0_t1 : Fin (k0_t1_loop i).trips) : Fin 1 → Nat :=
  let c0_i32_16 : BitVec 32 := 0#32
  let c1_i32_18 : BitVec 32 := 1#32
  let arg6 : BitVec 32 := Scf.iv c0_i32_16 c1_i32_18 k0_t1
  let c16_i32_23 : BitVec 32 := 16#32
  let v64 : BitVec 32 := Scalar.muli arg6 c16_i32_23
  let v65 : Index := Scalar.indexCast v64
  ![v65.toNat]
@[reducible] def k0_t2_loop (i : grid0.Coords) : Scf.Loop 32 :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_10 : BitVec 32 := 0#32
  let v33 : BitVec 1 := Scalar.cmpi .sgt v29 c0_i32_10
  let v34 : BitVec 32 := Scalar.extui v33
  let c0_i32_11 : BitVec 32 := 0#32
  let v35 : BitVec 1 := Scalar.cmpi .slt v29 c0_i32_11
  let v36 : BitVec 32 := Scalar.extui v35
  let v37 : BitVec 32 := Scalar.subi v34 v36
  let c16_i32 : BitVec 32 := 16#32
  let c0_i32_12 : BitVec 32 := 0#32
  let v38 : BitVec 1 := Scalar.cmpi .sgt c16_i32 c0_i32_12
  let v39 : BitVec 32 := Scalar.extui v38
  let c0_i32_13 : BitVec 32 := 0#32
  let v40 : BitVec 1 := Scalar.cmpi .slt c16_i32 c0_i32_13
  let v41 : BitVec 32 := Scalar.extui v40
  let v42 : BitVec 32 := Scalar.subi v39 v41
  let v43 : BitVec 1 := Scalar.cmpi .ne v37 v42
  let v44 : BitVec 32 := Scalar.remsi v29 c16_i32
  let c0_i32_14 : BitVec 32 := 0#32
  let v45 : BitVec 1 := Scalar.cmpi .ne v44 c0_i32_14
  let v46 : BitVec 1 := Scalar.andi v43 v45
  let v32 : BitVec 32 := Scalar.divsi v29 c16_i32
  let c1_i32_15 : BitVec 32 := 1#32
  let v47 : BitVec 32 := Scalar.subi v32 c1_i32_15
  let v48 : BitVec 32 := Scalar.select v46 v47 v32
  let v49 : BitVec 32 := Scalar.subi v48 c0_i32_16
  let c1_i32_17 : BitVec 32 := 1#32
  let v51 : BitVec 32 := Scalar.divsi v49 c1_i32_17
  let v52 : BitVec 32 := Scalar.muli v51 c1_i32_17
  let v53 : BitVec 32 := Scalar.addi c0_i32_16 v52
  let v50 : BitVec 32 := Scalar.addi c0_i32_16 v49
  let c1_i32_19 : BitVec 32 := 1#32
  ⟨v53, v50, c1_i32_19⟩
def k0_off3 (i : grid0.Coords) (k0_t2 : Fin (k0_t2_loop i).trips) : Fin 1 → Nat :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_10 : BitVec 32 := 0#32
  let v33 : BitVec 1 := Scalar.cmpi .sgt v29 c0_i32_10
  let v34 : BitVec 32 := Scalar.extui v33
  let c0_i32_11 : BitVec 32 := 0#32
  let v35 : BitVec 1 := Scalar.cmpi .slt v29 c0_i32_11
  let v36 : BitVec 32 := Scalar.extui v35
  let v37 : BitVec 32 := Scalar.subi v34 v36
  let c16_i32 : BitVec 32 := 16#32
  let c0_i32_12 : BitVec 32 := 0#32
  let v38 : BitVec 1 := Scalar.cmpi .sgt c16_i32 c0_i32_12
  let v39 : BitVec 32 := Scalar.extui v38
  let c0_i32_13 : BitVec 32 := 0#32
  let v40 : BitVec 1 := Scalar.cmpi .slt c16_i32 c0_i32_13
  let v41 : BitVec 32 := Scalar.extui v40
  let v42 : BitVec 32 := Scalar.subi v39 v41
  let v43 : BitVec 1 := Scalar.cmpi .ne v37 v42
  let v44 : BitVec 32 := Scalar.remsi v29 c16_i32
  let c0_i32_14 : BitVec 32 := 0#32
  let v45 : BitVec 1 := Scalar.cmpi .ne v44 c0_i32_14
  let v46 : BitVec 1 := Scalar.andi v43 v45
  let v32 : BitVec 32 := Scalar.divsi v29 c16_i32
  let c1_i32_15 : BitVec 32 := 1#32
  let v47 : BitVec 32 := Scalar.subi v32 c1_i32_15
  let v48 : BitVec 32 := Scalar.select v46 v47 v32
  let v49 : BitVec 32 := Scalar.subi v48 c0_i32_16
  let c1_i32_17 : BitVec 32 := 1#32
  let v51 : BitVec 32 := Scalar.divsi v49 c1_i32_17
  let v52 : BitVec 32 := Scalar.muli v51 c1_i32_17
  let v53 : BitVec 32 := Scalar.addi c0_i32_16 v52
  let c1_i32_19 : BitVec 32 := 1#32
  let arg6 : BitVec 32 := Scf.iv v53 c1_i32_19 k0_t2
  let c16_i32_23 : BitVec 32 := 16#32
  let v64 : BitVec 32 := Scalar.muli arg6 c16_i32_23
  let v65 : Index := Scalar.indexCast v64
  ![v65.toNat]
@[reducible] def k0_t3_loop : Scf.Loop 32 :=
  let c0_i32_20 : BitVec 32 := 0#32
  let c32_i32 : BitVec 32 := 32#32
  let v62 : BitVec 32 := Scalar.addi c0_i32_20 c32_i32
  let c1_i32_21 : BitVec 32 := 1#32
  ⟨c0_i32_20, v62, c1_i32_21⟩
def k0_off4 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_20 : BitVec 32 := 0#32
  let c1_i32_21 : BitVec 32 := 1#32
  let arg6 : BitVec 32 := Scf.iv c0_i32_20 c1_i32_21 k0_t3
  let c16_i32_23 : BitVec 32 := 16#32
  let v64 : BitVec 32 := Scalar.muli arg6 c16_i32_23
  let v65 : BitVec 32 := Scalar.addi v29 v64
  let v66 : Index := Scalar.indexCast v65
  ![v66.toNat]
def k0_off5 (k0_t3 : Fin k0_t3_loop.trips) : Fin 2 → Nat :=
  let c0_i32_20 : BitVec 32 := 0#32
  let c1_i32_21 : BitVec 32 := 1#32
  let arg6 : BitVec 32 := Scf.iv c0_i32_20 c1_i32_21 k0_t3
  let v83 : Index := Scalar.indexCast arg6
  let c0 : Index := 0#32
  ![v83.toNat, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_23_r1 : BitVec 32 := 0#32
  let c0_i32_24_r1 : BitVec 32 := 0#32
  ![v1.toNat, 0, 0]
abbrev grid1 : Pipeline.Grid := ⟨1, ![8], ![false]⟩

@[reducible] def k1_t1_loop : Scf.Loop 32 :=
  let c0_i32_8 : BitVec 32 := 0#32
  let c2048_i32 : BitVec 32 := 2048#32
  let v21 : BitVec 32 := Scalar.addi c0_i32_8 c2048_i32
  let c1_i32 : BitVec 32 := 1#32
  ⟨c0_i32_8, v21, c1_i32⟩
def k1_off1 (k1_t1 : Fin k1_t1_loop.trips) : Fin 3 → Nat :=
  let c0_15 : Index := 0#32
  let c0_16 : Index := 0#32
  let c0_i32_8 : BitVec 32 := 0#32
  let c1_i32 : BitVec 32 := 1#32
  let arg7 : BitVec 32 := Scf.iv c0_i32_8 c1_i32 k1_t1
  let v27 : Index := Scalar.indexCast arg7
  ![0, 0, v27.toNat]
def k1_off2 (k1_t1 : Fin k1_t1_loop.trips) : Fin 2 → Nat :=
  let c0_i32_8 : BitVec 32 := 0#32
  let c1_i32 : BitVec 32 := 1#32
  let arg7 : BitVec 32 := Scf.iv c0_i32_8 c1_i32 k1_t1
  let c0_i32_19 : BitVec 32 := 0#32
  ![arg7.toNat, 0]
def k1_off3 (v28 : BitVec 32) : Fin 2 → Nat :=
  let c0_i32_20 : BitVec 32 := 0#32
  ![v28.toNat, 0]
def k1_cond1 (v17 : BitVec 32) : BitVec 1 :=
  let c0_i32 : BitVec 32 := 0#32
  let v18 : BitVec 1 := Scalar.cmpi .sgt v17 c0_i32
  let v19 : BitVec 32 := Scalar.extui v18
  let c0_i32_7 : BitVec 32 := 0#32
  let v20 : BitVec 1 := Scalar.cmpi .ne v19 c0_i32_7
  v20

def k1_cond2 (v28 : BitVec 32) : BitVec 1 :=
  let c16_i32_17 : BitVec 32 := 16#32
  let v29 : BitVec 1 := Scalar.cmpi .sge v28 c16_i32_17
  let v30 : BitVec 32 := Scalar.extui v29
  let c0_i32_18 : BitVec 32 := 0#32
  let v31 : BitVec 1 := Scalar.cmpi .ne v30 c0_i32_18
  v31

def k1_chk1 (v17 : BitVec 32) (v28 : BitVec 32) : Prop :=
  (∀ (k1_h1 : k1_cond1 v17 = 1#1), ∀ (k1_h2 : k1_cond2 v28 = 1#1), ∀ a, (k1_off3 v28) a + S1x2048.size a ≤ S8192x2048.size a)
theorem k1_off3_inb : ∀ (v17 : BitVec 32) (v28 : BitVec 32) (k1_hw1 : k1_chk1 v17 v28), ∀ (k1_h1 : k1_cond1 v17 = 1#1), ∀ (k1_h2 : k1_cond2 v28 = 1#1), ∀ a, (k1_off3 v28) a + S1x2048.size a ≤ S8192x2048.size a := fun v17 v28 k1_hw1 k1_h1 k1_h2 => k1_hw1 k1_h1 k1_h2

@[reducible] def k1_t2_loop (v17 : BitVec 32) : Scf.Loop 32 :=
  let c0_i32_11 : BitVec 32 := 0#32
  let v22 : BitVec 32 := Scalar.subi v17 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_13 : BitVec 32 := 1#32
  ⟨c0_i32_11, v26, c1_i32_13⟩

@[reducible] def k1_t3_loop (v17 : BitVec 32) : Scf.Loop 32 :=
  let c0_i32_11 : BitVec 32 := 0#32
  let v22 : BitVec 32 := Scalar.subi v17 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let v23 : BitVec 32 := Scalar.addi c0_i32_11 v22
  let c1_i32_14 : BitVec 32 := 1#32
  ⟨v26, v23, c1_i32_14⟩

def k1_chk2 (v17 : BitVec 32) : Prop :=
  (∀ (k1_h1 : k1_cond1 v17 = 1#1), (k1_t2_loop v17).OK) ∧
  (∀ (k1_h1 : k1_cond1 v17 = 1#1), (k1_t3_loop v17).OK)
theorem k1_t2_ok : ∀ (v17 : BitVec 32) (k1_hw2 : k1_chk2 v17), ∀ (k1_h1 : k1_cond1 v17 = 1#1), (k1_t2_loop v17).OK := fun v17 k1_hw2 k1_h1 => k1_hw2.1 k1_h1
theorem k1_t3_ok : ∀ (v17 : BitVec 32) (k1_hw2 : k1_chk2 v17), ∀ (k1_h1 : k1_cond1 v17 = 1#1), (k1_t3_loop v17).OK := fun v17 k1_hw2 k1_h1 => k1_hw2.2 k1_h1

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096 : Shape := ⟨2, ![4, 4096]⟩
abbrev S8192x2048 : Shape := ⟨2, ![8192, 2048]⟩
abbrev S10 : Shape := ⟨1, ![10]⟩
abbrev S16384 : Shape := ⟨1, ![16384]⟩
abbrev S16384x1 : Shape := ⟨2, ![16384, 1]⟩
abbrev S1x10 : Shape := ⟨2, ![1, 10]⟩
abbrev S16384x10 : Shape := ⟨2, ![16384, 10]⟩
abbrev S_ : Shape := ⟨0, ![]⟩
abbrev S4x1 : Shape := ⟨2, ![4, 1]⟩
abbrev S4x4095 : Shape := ⟨2, ![4, 4095]⟩
abbrev S4096 : Shape := ⟨1, ![4096]⟩
abbrev S4 : Shape := ⟨1, ![4]⟩
abbrev S4x4096x1 : Shape := ⟨3, ![4, 4096, 1]⟩
abbrev S4x4096x2 : Shape := ⟨3, ![4, 4096, 2]⟩
abbrev S1 : Shape := ⟨1, ![1]⟩
abbrev S1x1x1 : Shape := ⟨3, ![1, 1, 1]⟩
abbrev S4x4096x2048 : Shape := ⟨3, ![4, 4096, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S8192x2048, .f32⟩
  | .hbm, ⟨2, _⟩ => ⟨S10, .i32⟩
  | .hbm, ⟨3, _⟩ => ⟨S16384, .i32⟩
  | .hbm, ⟨4, _⟩ => ⟨S16384x1, .i32⟩
  | .hbm, ⟨5, _⟩ => ⟨S1x10, .i32⟩
  | .hbm, ⟨6, _⟩ => ⟨S16384x10, .i32⟩
  | .hbm, ⟨7, _⟩ => ⟨S16384x10, .i32⟩
  | .hbm, ⟨8, _⟩ => ⟨S16384x10, .i1⟩
  | .hbm, ⟨9, _⟩ => ⟨S_, .i1⟩
  | .hbm, ⟨10, _⟩ => ⟨S16384, .i1⟩
  | .hbm, ⟨11, _⟩ => ⟨S4x4096, .i1⟩
  | .hbm, ⟨12, _⟩ => ⟨S_, .i1⟩
  | .hbm, ⟨13, _⟩ => ⟨S4x1, .i1⟩
  | .hbm, ⟨14, _⟩ => ⟨S4x4095, .i1⟩
  | .hbm, ⟨15, _⟩ => ⟨S4x4096, .i1⟩
  | .hbm, ⟨16, _⟩ => ⟨S4x4096, .i1⟩
  | .hbm, ⟨17, _⟩ => ⟨S4x4096, .i1⟩
  | .hbm, ⟨18, _⟩ => ⟨S4x4096, .i32⟩
  | .hbm, ⟨19, _⟩ => ⟨S_, .i32⟩
  | .hbm, ⟨20, _⟩ => ⟨S_, .i32⟩
  | .hbm, ⟨21, _⟩ => ⟨S4x4096, .i32⟩
  | .hbm, ⟨22, _⟩ => ⟨S4096, .i32⟩
  | .hbm, ⟨23, _⟩ => ⟨S4x4096, .i32⟩
  | .hbm, ⟨24, _⟩ => ⟨S4x4096, .i32⟩
  | .hbm, ⟨25, _⟩ => ⟨S4x4096, .i32⟩
  | .hbm, ⟨26, _⟩ => ⟨S4, .i32⟩
  | .hbm, ⟨27, _⟩ => ⟨S4x1, .i32⟩
  | .hbm, ⟨28, _⟩ => ⟨S4x4096, .i32⟩
  | .hbm, ⟨29, _⟩ => ⟨S_, .i32⟩
  | .hbm, ⟨30, _⟩ => ⟨S4x4096, .i32⟩
  | .hbm, ⟨31, _⟩ => ⟨S_, .i32⟩
  | .hbm, ⟨32, _⟩ => ⟨S4x4096, .i32⟩
  | .hbm, ⟨33, _⟩ => ⟨S4x4096, .i1⟩
  | .hbm, ⟨34, _⟩ => ⟨S_, .i32⟩
  | .hbm, ⟨35, _⟩ => ⟨S4x4096, .i32⟩
  | .hbm, ⟨36, _⟩ => ⟨S4x4096, .i32⟩
  | .hbm, ⟨37, _⟩ => ⟨S4x4096, .i32⟩
  | .hbm, ⟨38, _⟩ => ⟨S_, .i32⟩
  | .hbm, ⟨39, _⟩ => ⟨S4x4096, .i32⟩
  | .hbm, ⟨40, _⟩ => ⟨S4x4096, .i1⟩
  | .hbm, ⟨41, _⟩ => ⟨S_, .i32⟩
  | .hbm, ⟨42, _⟩ => ⟨S4x4096, .i32⟩
  | .hbm, ⟨43, _⟩ => ⟨S4x4096, .i32⟩
  | .hbm, ⟨44, _⟩ => ⟨S4x4096, .i32⟩
  | .hbm, ⟨45, _⟩ => ⟨S4x4096x1, .i32⟩
  | .hbm, ⟨46, _⟩ => ⟨S4x4096x1, .i32⟩
  | .hbm, ⟨47, _⟩ => ⟨S4x4096x2, .i32⟩
  | .hbm, ⟨48, _⟩ => ⟨S4x4096, .i32⟩
  | .hbm, ⟨49, _⟩ => ⟨S_, .i32⟩
  | .hbm, ⟨50, _⟩ => ⟨S4x4096, .i32⟩
  | .hbm, ⟨51, _⟩ => ⟨S4x4096, .i1⟩
  | .hbm, ⟨52, _⟩ => ⟨S_, .i32⟩
  | .hbm, ⟨53, _⟩ => ⟨S4x4096, .i32⟩
  | .hbm, ⟨54, _⟩ => ⟨S4x4096, .i32⟩
  | .hbm, ⟨55, _⟩ => ⟨S4x4096, .i32⟩
  | .hbm, ⟨56, _⟩ => ⟨S4x4096x1, .i32⟩
  | .hbm, ⟨57, _⟩ => ⟨S1, .i32⟩
  | .hbm, ⟨58, _⟩ => ⟨S_, .i32⟩
  | .hbm, ⟨59, _⟩ => ⟨S4x4096x1, .i32⟩
  | .hbm, ⟨60, _⟩ => ⟨S4x4096x1, .i1⟩
  | .hbm, ⟨61, _⟩ => ⟨S1x1x1, .i32⟩
  | .hbm, ⟨62, _⟩ => ⟨S4x4096x1, .i32⟩
  | .hbm, ⟨63, _⟩ => ⟨S4x4096x1, .i1⟩
  | .hbm, ⟨64, _⟩ => ⟨S4x4096x1, .i1⟩
  | .hbm, ⟨65, _⟩ => ⟨S_, .i1⟩
  | .hbm, ⟨66, _⟩ => ⟨S4x4096, .i1⟩
  | .hbm, ⟨67, _⟩ => ⟨S4x4096, .i32⟩
  | .hbm, ⟨68, _⟩ => ⟨S_, .i32⟩
  | .hbm, ⟨69, _⟩ => ⟨S4x4096, .i32⟩
  | .hbm, ⟨70, _⟩ => ⟨S4x4096, .i32⟩
  | .hbm, ⟨71, _⟩ => ⟨S4x4096, .i32⟩
  | .hbm, ⟨72, _⟩ => ⟨S_, .i32⟩
  | .hbm, ⟨73, _⟩ => ⟨S4x4096, .i32⟩
  | .hbm, ⟨74, _⟩ => ⟨S4x4096, .i32⟩
  | .hbm, ⟨75, _⟩ => ⟨S4x4096, .i32⟩
  | .hbm, ⟨76, _⟩ => ⟨S4x4096, .i32⟩
  | .hbm, ⟨77, _⟩ => ⟨S_, .i32⟩
  | .hbm, ⟨78, _⟩ => ⟨S4x4096, .i32⟩
  | .hbm, ⟨79, _⟩ => ⟨S4x4096, .i1⟩
  | .hbm, ⟨80, _⟩ => ⟨S_, .i32⟩
  | .hbm, ⟨81, _⟩ => ⟨S4x4096, .i32⟩
  | .hbm, ⟨82, _⟩ => ⟨S4x4096, .i32⟩
  | .hbm, ⟨83, _⟩ => ⟨S4x4096, .i32⟩
  | .hbm, ⟨84, _⟩ => ⟨S4x4096x1, .i32⟩
  | .hbm, ⟨85, _⟩ => ⟨S1, .i32⟩
  | .hbm, ⟨86, _⟩ => ⟨S_, .i32⟩
  | .hbm, ⟨87, _⟩ => ⟨S4x4096x1, .i32⟩
  | .hbm, ⟨88, _⟩ => ⟨S4x4096x1, .i1⟩
  | .hbm, ⟨89, _⟩ => ⟨S1x1x1, .i32⟩
  | .hbm, ⟨90, _⟩ => ⟨S4x4096x1, .i32⟩
  | .hbm, ⟨91, _⟩ => ⟨S4x4096x1, .i1⟩
  | .hbm, ⟨92, _⟩ => ⟨S4x4096x1, .i1⟩
  | .hbm, ⟨93, _⟩ => ⟨S_, .i1⟩
  | .hbm, ⟨94, _⟩ => ⟨S4x4096, .i1⟩
  | .hbm, ⟨95, _⟩ => ⟨S4x4096x2048, .f32⟩
  | .hbm, ⟨96, _⟩ => ⟨S4x4096x2048, .i1⟩
  | .hbm, ⟨97, _⟩ => ⟨S_, .f32⟩
  | .hbm, ⟨98, _⟩ => ⟨S4x4096x2048, .f32⟩
  | .hbm, ⟨99, _⟩ => ⟨S4x4096x2048, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_call0_c : Ref sig .tc := ⟨.hbm, 19, rfl⟩
abbrev main_call1_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_c_4 : Ref sig .tc := ⟨.hbm, 68, rfl⟩
abbrev main_call2_v14 : Ref sig .tc := ⟨.hbm, 69, rfl⟩
abbrev main_v32 : Ref sig .tc := ⟨.hbm, 70, rfl⟩
abbrev main_v33 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v38 : Ref sig .tc := ⟨.hbm, 99, rfl⟩

abbrev nD : Nat := 1
abbrev τ : Topo := Topo.v7x

variable {F : FTy → Type} [FloatOps F]
-- ==== Proof.Pos.lean ====
/- The positions: the arithmetic of one row of ids, without any program.

A row is a sequence of words; a word is a digit when it is below ten as a signed number. `lastNd a n` is the index of
the last word before `n` that is not a digit, `-1` if there is none; the position at `i` counts the digits since.
The vector kernel computes the greatest of a set of candidates, `-1` at a digit and the index elsewhere, by maxima
over lanes, over chunks of sixteen and over the words before its own segment; the lemmas here say what each of its
pure values is in these terms. -/
module

public import proofs.«01_k».proof.Proof.Gen.KernelIdeal.Skeleton

@[expose] public section

set_option maxRecDepth 16384

noncomputable section

namespace Cert.Proof.Pos

open Idealize.ShloMosaic Cert.KernelIdeal Cert.KernelIdeal.Gen

/-! ## The row's positions -/

/-- The index of the last word before `n` that is no digit, or `-1`. -/
def lastNd (a : ℕ → BitVec 32) : ℕ → ℤ
  | 0 => -1
  | n + 1 => if (a n).slt 10#32 then lastNd a n else (n : ℤ)

/-- What the word at `j` offers: `-1` at a digit, its index elsewhere. -/
def ndv (a : ℕ → BitVec 32) (j : ℕ) : ℤ := if (a j).slt 10#32 then -1 else (j : ℤ)

/-- The position at `i`: how many digits end there in an unbroken run. -/
def posOf (a : ℕ → BitVec 32) (i : ℕ) : ℕ := ((i : ℤ) - lastNd a (i + 1)).toNat

theorem lastNd_lo (a : ℕ → BitVec 32) : ∀ n, -1 ≤ lastNd a n
  | 0 => le_refl _
  | n + 1 => by
    have := lastNd_lo a n
    simp only [lastNd]; split <;> omega

theorem lastNd_lt (a : ℕ → BitVec 32) : ∀ n, lastNd a n < n
  | 0 => by simp [lastNd]
  | n + 1 => by
    have := lastNd_lt a n
    simp only [lastNd]; split <;> push_cast <;> omega

theorem ndv_le_lastNd (a : ℕ → BitVec 32) : ∀ n j, j < n → ndv a j ≤ lastNd a n
  | 0, j, h => absurd h (Nat.not_lt_zero _)
  | n + 1, j, h => by
    rcases Nat.lt_succ_iff_lt_or_eq.1 h with h' | rfl
    · have h1 := ndv_le_lastNd a n j h'
      have h2 := lastNd_lt a n
      simp only [lastNd]; split <;> omega
    · have := lastNd_lo a j
      simp only [lastNd, ndv]; split <;> simp_all

theorem lastNd_mem (a : ℕ → BitVec 32) : ∀ n, lastNd a n = -1 ∨ ∃ j, j < n ∧ lastNd a n = ndv a j
  | 0 => Or.inl rfl
  | n + 1 => by
    by_cases h : (a n).slt 10#32
    · rcases lastNd_mem a n with h' | ⟨j, hj, h'⟩
      · left; simp [lastNd, h, h']
      · right; exact ⟨j, by omega, by simp [lastNd, h, h']⟩
    · right; exact ⟨n, by omega, by simp [lastNd, ndv, h]⟩

/-- The greatest candidate before `n`, and `-1`, is `lastNd`. -/
theorem eq_lastNd {a : ℕ → BitVec 32} {n : ℕ} {z : ℤ} (h0 : -1 ≤ z) (h1 : ∀ j, j < n → ndv a j ≤ z)
    (h2 : z = -1 ∨ ∃ j, j < n ∧ z = ndv a j) : z = lastNd a n := by
  apply le_antisymm
  · rcases h2 with h | ⟨j, hj, h⟩
    · rw [h]; exact lastNd_lo a n
    · rw [h]; exact ndv_le_lastNd a n j hj
  · rcases lastNd_mem a n with h | ⟨j, hj, h⟩
    · rw [h]; exact h0
    · rw [h]; exact h1 j hj

theorem posOf_le (a : ℕ → BitVec 32) (i : ℕ) : posOf a i ≤ i + 1 := by
  have := lastNd_lo a (i + 1)
  unfold posOf; omega

/-- The position in step form: one more than the position before at a digit, nothing elsewhere. -/
theorem posOf_succ (a : ℕ → BitVec 32) (i : ℕ) :
    posOf a (i + 1) = if (a (i + 1)).slt 10#32 then posOf a i + 1 else 0 := by
  have := lastNd_lt a (i + 1)
  unfold posOf
  rw [show lastNd a (i + 1 + 1) = if (a (i + 1)).slt 10#32 then lastNd a (i + 1) else ((i + 1 : ℕ) : ℤ) from rfl]
  split <;> push_cast at * <;> omega

theorem posOf_zero (a : ℕ → BitVec 32) : posOf a 0 = if (a 0).slt 10#32 then 1 else 0 := by
  unfold posOf
  rw [show lastNd a (0 + 1) = if (a 0).slt 10#32 then -1 else ((0 : ℕ) : ℤ) from rfl]
  split <;> simp

theorem posOf_congr {a b : ℕ → BitVec 32} (i : ℕ) (h : ∀ j, j ≤ i → a j = b j) : posOf a i = posOf b i := by
  induction i with
  | zero => rw [posOf_zero, posOf_zero, h 0 (le_refl _)]
  | succ i ih => rw [posOf_succ, posOf_succ, h _ (le_refl _), ih fun j hj => h j (by omega)]

/-! ## Words -/

theorem toInt_maxsi (x y : BitVec 32) : (IntOp.maxsi x y).toInt = max x.toInt y.toInt := by
  unfold IntOp.maxsi
  rw [BitVec.slt]
  split
  · rename_i h; rw [decide_eq_true_eq] at h; omega
  · rename_i h; rw [decide_eq_true_eq] at h; omega

theorem maxsi_mem (x y : BitVec 32) : IntOp.maxsi x y = x ∨ IntOp.maxsi x y = y := by
  unfold IntOp.maxsi; split <;> simp

/-- The sign bit turned over is the number moved up by half the range. -/
theorem toNat_flip (x : BitVec 32) : ((x ^^^ 2147483648#32).toNat : ℤ) = x.toInt + 2147483648 := by
  have hc : (2147483648#32 : BitVec 32) = BitVec.cons true 0#31 := by decide
  have hx : x = BitVec.cons x.msb (x.setWidth 31) := (BitVec.cons_msb_setWidth x).symm
  have h31 : (x.setWidth 31).toNat < 2 ^ 31 := BitVec.isLt _
  generalize x.msb = b at hx
  generalize x.setWidth 31 = y at hx h31
  subst hx
  rw [hc, BitVec.cons_xor_cons, BitVec.toInt_eq_msb_cond, BitVec.msb_cons, BitVec.toNat_cons', BitVec.toNat_cons']
  cases b <;> simp [Nat.shiftLeft_eq] <;> omega

theorem flip_flip (x : BitVec 32) : x ^^^ 2147483648#32 ^^^ 2147483648#32 = x := by
  rw [BitVec.xor_assoc, BitVec.xor_self, BitVec.xor_zero]

theorem maxui_ge_left (x y : BitVec 32) : x.toNat ≤ (IntOp.maxui x y).toNat := by
  unfold IntOp.maxui; rw [BitVec.ult]
  split
  · exact le_refl _
  · rename_i h; rw [decide_eq_true_eq] at h; omega

theorem maxui_ge_right (x y : BitVec 32) : y.toNat ≤ (IntOp.maxui x y).toNat := by
  unfold IntOp.maxui; rw [BitVec.ult]
  split
  · rename_i h; rw [decide_eq_true_eq] at h; omega
  · exact le_refl _

theorem foldl_maxui {κ : Type} (f : κ → BitVec 32) : ∀ (L : List κ) (r : BitVec 32),
    r.toNat ≤ (L.foldl (fun r k => IntOp.maxui r (f k)) r).toNat
    ∧ (∀ k ∈ L, (f k).toNat ≤ (L.foldl (fun r k => IntOp.maxui r (f k)) r).toNat)
    ∧ (L.foldl (fun r k => IntOp.maxui r (f k)) r = r ∨ ∃ k ∈ L, L.foldl (fun r k => IntOp.maxui r (f k)) r = f k)
  | [], r => ⟨le_refl _, by simp, Or.inl rfl⟩
  | k :: L, r => by
    obtain ⟨h1, h2, h3⟩ := foldl_maxui f L (IntOp.maxui r (f k))
    simp only [List.foldl_cons]
    refine ⟨le_trans (maxui_ge_left _ _) h1, ?_, ?_⟩
    · intro j hj
      rcases List.mem_cons.1 hj with rfl | hj
      · exact le_trans (maxui_ge_right _ _) h1
      · exact h2 j hj
    · rcases h3 with h3 | ⟨j, hj, h3⟩
      · rw [h3]
        unfold IntOp.maxui
        split
        · exact Or.inl rfl
        · exact Or.inr ⟨k, by simp, rfl⟩
      · exact Or.inr ⟨j, by simp [hj], h3⟩

/-- The lane numbered `l` of a vector of sixteen. -/
abbrev ln (l : Fin 16) : S16.Idx := fun a => ⟨l.val, by rw [Fin.eq_zero a]; exact l.isLt⟩

theorem eq_ln (x : S16.Idx) : x = ln ⟨(x 0).val, (x 0).isLt⟩ := by
  funext a; rw [Fin.eq_zero a]

/-- The running maximum between two flips of the sign bit: at each lane the greatest word so far, as signed numbers. -/
theorem scan_flip (v : IVec S16 32) (l : Fin 16) :
    (∀ k : Fin 16, k.val ≤ l.val → (v (ln k)).toInt
        ≤ (xori (scan .max (xori v (broadcast S16 2147483648#32))) (broadcast S16 2147483648#32) (ln l)).toInt)
    ∧ ∃ k : Fin 16, k.val ≤ l.val
        ∧ xori (scan .max (xori v (broadcast S16 2147483648#32))) (broadcast S16 2147483648#32) (ln l) = v (ln k) := by
  obtain ⟨h1, h2, h3⟩ := foldl_maxui
    (fun k : Fin 16 => v (ln k) ^^^ 2147483648#32)
    ((List.finRange 16).filter fun k => decide (0 < k.val ∧ k.val ≤ l.val)) (v (ln 0) ^^^ 2147483648#32)
  have e : scan .max (xori v (broadcast S16 2147483648#32)) (ln l)
      = ((List.finRange 16).filter fun k => decide (0 < k.val ∧ k.val ≤ l.val)).foldl
          (fun r k => IntOp.maxui r (v (ln k) ^^^ 2147483648#32)) (v (ln 0) ^^^ 2147483648#32) := rfl
  have e' : xori (scan .max (xori v (broadcast S16 2147483648#32))) (broadcast S16 2147483648#32) (ln l)
      = scan .max (xori v (broadcast S16 2147483648#32)) (ln l) ^^^ 2147483648#32 := rfl
  rw [e', e]
  generalize List.foldl _ _ _ = R at h1 h2 h3 ⊢
  have hR := toNat_flip (R ^^^ 2147483648#32)
  rw [flip_flip] at hR
  constructor
  · intro k hk
    have hk' := toNat_flip (v (ln k))
    by_cases h : k.val = 0
    · have : k = 0 := Fin.ext h
      subst this; omega
    · have := h2 k (by simp; omega)
      omega
  · rcases h3 with h3 | ⟨k, hk, h3⟩
    · exact ⟨0, Nat.zero_le _, by rw [h3, flip_flip]⟩
    · have : 0 < k.val ∧ k.val ≤ l.val := by simpa using hk
      exact ⟨k, this.2, by rw [h3, flip_flip]⟩

/-! ## The kernel's pure values -/

theorem toInt_ofNat_small {n : ℕ} (h : n < 2147483648) : (BitVec.ofNat 32 n).toInt = n := by
  rw [BitVec.toInt_eq_toNat_cond, BitVec.toNat_ofNat]; omega

theorem iota_ln (l : Fin 16) : iota .scVector S16 32 [0] iota_S16_d0_w32_scVector (ln l) = BitVec.ofNat 32 l.val := by
  unfold iota; simp

theorem iv_zero_one (k : ℕ) : Scf.iv 0#32 1#32 k = BitVec.ofNat 32 k := by
  unfold Scf.iv; simp

theorem select_slt {α : Type} (x y : BitVec 32) (p q : α) :
    Scalar.select (IntOp.cmpi .slt x y) p q = if x.slt y then p else q := by
  unfold Scalar.select IntOp.cmpi
  cases x.slt y <;> rfl

variable {F : FTy → Type} [FloatOps F]

theorem pay2_ln (i : grid0.Coords) (t : Fin (k0_t1_loop i).trips) (g : IVec S16 32) (v : Vec F S16 .i32) (l : Fin 16) :
    k0_pay2 (F := F) i t g v (ln l)
      = IntOp.maxsi (g (ln l)) (if BitVec.slt (v (ln l)) 10#32 then 4294967295#32 else BitVec.ofNat 32 (16 * t.val + l.val)) := by
  have h : k0_pay2 (F := F) i t g v (ln l)
      = IntOp.maxsi (g (ln l)) (Scalar.select (IntOp.cmpi .slt (v (ln l)) 10#32) 4294967295#32
          (iota .scVector S16 32 [0] iota_S16_d0_w32_scVector (ln l) + Scf.iv 0#32 1#32 t.val * 16#32)) := rfl
  rw [h, select_slt, iota_ln, iv_zero_one]
  congr 2
  apply BitVec.eq_of_toNat_eq; simp [Nat.mul_comm, Nat.add_comm]

theorem pay6_ln (b : ℕ) (t : Fin k0_t3_loop.trips) (l : Fin 16) :
    k0_pay6 (BitVec.ofNat 32 b) t (ln l) = BitVec.ofNat 32 (b + 16 * t.val + l.val) := by
  have h : k0_pay6 (BitVec.ofNat 32 b) t (ln l)
      = iota .scVector S16 32 [0] iota_S16_d0_w32_scVector (ln l) + (BitVec.ofNat 32 b + Scf.iv 0#32 1#32 t.val * 16#32) := rfl
  rw [h, iota_ln, iv_zero_one]
  apply BitVec.eq_of_toNat_eq
  simp only [BitVec.toNat_add, BitVec.toNat_mul, BitVec.toNat_ofNat]
  omega

theorem toInt_pick (a : ℕ → BitVec 32) (j : ℕ) (h : j < 4096) :
    (if BitVec.slt (a j) 10#32 then 4294967295#32 else BitVec.ofNat 32 j).toInt = ndv a j := by
  unfold ndv
  split
  · decide
  · exact toInt_ofNat_small (by omega)

theorem pay7_ln (a : ℕ → BitVec 32) (b : ℕ) (t : Fin k0_t3_loop.trips) (v : Vec F S16 .i32)
    (hb : b + 16 * t.val + 16 ≤ 4096) (hv : ∀ l : Fin 16, v (ln l) = a (b + 16 * t.val + l.val)) (l : Fin 16) :
    (k0_pay7 (F := F) (BitVec.ofNat 32 b) t v (ln l)).toInt = ndv a (b + 16 * t.val + l.val) := by
  have h : k0_pay7 (F := F) (BitVec.ofNat 32 b) t v (ln l)
      = Scalar.select (IntOp.cmpi .slt (v (ln l)) 10#32) 4294967295#32 (k0_pay6 (BitVec.ofNat 32 b) t (ln l)) := rfl
  rw [h, select_slt, pay6_ln, hv]
  exact toInt_pick a _ (by omega)

/-- The running maximum of a chunk and the carry before it: the last non-digit up to the lane. -/
theorem carry_lane (a : ℕ → BitVec 32) (b : ℕ) (t : Fin k0_t3_loop.trips) (v : Vec F S16 .i32) (c : BitVec 32)
    (hb : b + 16 * t.val + 16 ≤ 4096) (hv : ∀ l : Fin 16, v (ln l) = a (b + 16 * t.val + l.val))
    (hc : c.toInt = lastNd a (b + 16 * t.val)) (l : Fin 16) :
    max (k0_pay9 (F := F) (BitVec.ofNat 32 b) t v (ln l)).toInt c.toInt = lastNd a (b + 16 * t.val + l.val + 1) := by
  obtain ⟨h1, k, hk, h2⟩ := scan_flip (k0_pay7 (F := F) (BitVec.ofNat 32 b) t v) l
  have e : k0_pay9 (F := F) (BitVec.ofNat 32 b) t v (ln l)
      = xori (scan .max (xori (k0_pay7 (F := F) (BitVec.ofNat 32 b) t v) (broadcast S16 2147483648#32))) (broadcast S16 2147483648#32) (ln l) := rfl
  rw [← e] at h1 h2
  have h7 := fun k => pay7_ln a b t v hb hv k
  simp only [h7] at h1
  rw [h2, h7, hc] at *
  have hlo := lastNd_lo a (b + 16 * t.val)
  have hle := ndv_le_lastNd a (b + 16 * t.val)
  apply eq_lastNd
  · omega
  · intro j hj
    by_cases hj' : j < b + 16 * t.val
    · exact le_trans (hle j hj') (le_max_right _ _)
    · have hj2 : j - (b + 16 * t.val) < 16 := by have := l.isLt; omega
      have := h1 ⟨j - (b + 16 * t.val), hj2⟩ (by simp only; omega)
      rw [show b + 16 * t.val + (j - (b + 16 * t.val)) = j by omega] at this
      exact le_trans this (le_max_left _ _)
  · rcases max_choice (ndv a (b + 16 * t.val + k.val)) (lastNd a (b + 16 * t.val)) with hm | hm
    · rw [hm]; exact Or.inr ⟨_, by omega, rfl⟩
    · rw [hm]
      rcases lastNd_mem a (b + 16 * t.val) with h | ⟨j, hj, h⟩
      · exact Or.inl h
      · exact Or.inr ⟨j, by omega, h⟩

/-- The carry after a chunk. -/
theorem carry_succ (a : ℕ → BitVec 32) (b : ℕ) (t : Fin k0_t3_loop.trips) (v : Vec F S16 .i32) (c : BitVec 32)
    (hb : b + 16 * t.val + 16 ≤ 4096) (hv : ∀ l : Fin 16, v (ln l) = a (b + 16 * t.val + l.val))
    (hc : c.toInt = lastNd a (b + 16 * t.val)) :
    (Scalar.maxsi c (extractAt ![15] (k0_pay9 (F := F) (BitVec.ofNat 32 b) t v) inpos_S16_p15)).toInt
      = lastNd a (b + 16 * (t.val + 1)) := by
  have e : extractAt ![15] (k0_pay9 (F := F) (BitVec.ofNat 32 b) t v) inpos_S16_p15
      = k0_pay9 (F := F) (BitVec.ofNat 32 b) t v (ln 15) := by
    unfold extractAt
    congr 1
    funext x; rw [Fin.eq_zero x]; rfl
  have h := carry_lane a b t v c hb hv hc 15
  rw [e]
  rw [show Scalar.maxsi c (k0_pay9 (F := F) (BitVec.ofNat 32 b) t v (ln 15))
    = IntOp.maxsi c (k0_pay9 (F := F) (BitVec.ofNat 32 b) t v (ln 15)) from rfl, toInt_maxsi, max_comm, h]
  congr 1

/-- The row of sixteen positions a chunk writes. -/
theorem pay8_ln (a : ℕ → BitVec 32) (b : ℕ) (t : Fin k0_t3_loop.trips) (v : Vec F S16 .i32) (c : BitVec 32)
    (hb : b + 16 * t.val + 16 ≤ 4096) (hv : ∀ l : Fin 16, v (ln l) = a (b + 16 * t.val + l.val))
    (hc : c.toInt = lastNd a (b + 16 * t.val)) (l : Fin 16) :
    k0_pay8 (F := F) (BitVec.ofNat 32 b) t c v (ln l) = BitVec.ofNat 32 (posOf a (b + 16 * t.val + l.val)) := by
  have h := carry_lane a b t v c hb hv hc l
  have e : k0_pay8 (F := F) (BitVec.ofNat 32 b) t c v (ln l)
      = Scalar.select (IntOp.cmpi .slt (v (ln l)) 10#32)
          (k0_pay6 (BitVec.ofNat 32 b) t (ln l) - IntOp.maxsi (k0_pay9 (F := F) (BitVec.ofNat 32 b) t v (ln l)) c) 0#32 := rfl
  rw [← toInt_maxsi] at h
  rw [e, select_slt, pay6_ln, hv]
  have hlo := lastNd_lo a (b + 16 * t.val + l.val + 1)
  have hlt := lastNd_lt a (b + 16 * t.val + l.val + 1)
  split
  · generalize IntOp.maxsi _ _ = w at h ⊢
    apply BitVec.eq_of_toInt_eq
    rw [BitVec.toInt_sub, h, toInt_ofNat_small (by omega)]
    have hp := posOf_le a (b + 16 * t.val + l.val)
    rw [toInt_ofNat_small (by omega)]
    unfold posOf
    rw [Int.bmod_eq_of_le (by omega) (by omega)]
    omega
  · rename_i hn
    have : lastNd a (b + 16 * t.val + l.val + 1) = ((b + 16 * t.val + l.val : ℕ) : ℤ) := by
      simp [lastNd, hn]
    unfold posOf
    rw [this]; simp

/-! ## The words before the segment -/

/-- After `k` chunks of the words before the segment, lane `l` holds the greatest candidate of its own words. -/
def AccOK (a : ℕ → BitVec 32) (k : ℕ) (g : IVec S16 32) : Prop :=
  ∀ l : Fin 16, -1 ≤ (g (ln l)).toInt ∧ (∀ j, j < k → ndv a (16 * j + l.val) ≤ (g (ln l)).toInt)
    ∧ ((g (ln l)).toInt = -1 ∨ ∃ j, j < k ∧ (g (ln l)).toInt = ndv a (16 * j + l.val))

theorem acc_zero (a : ℕ → BitVec 32) : AccOK a 0 k0_pay1 := fun l =>
  have h : (k0_pay1 (ln l)).toInt = -1 := by
    rw [show k0_pay1 (ln l) = 4294967295#32 from rfl]; decide
  ⟨by omega, fun j h => absurd h (Nat.not_lt_zero _), Or.inl h⟩

theorem acc_succ (a : ℕ → BitVec 32) (i : grid0.Coords) (t : Fin (k0_t1_loop i).trips) (g : IVec S16 32) (v : Vec F S16 .i32)
    (ht : 16 * t.val + 16 ≤ 4096) (hv : ∀ l : Fin 16, v (ln l) = a (16 * t.val + l.val)) (hg : AccOK a t.val g) :
    AccOK a (t.val + 1) (k0_pay2 (F := F) i t g v) := by
  intro l
  obtain ⟨h0, h1, h2⟩ := hg l
  rw [pay2_ln, toInt_maxsi, hv, toInt_pick a _ (by omega)]
  refine ⟨by omega, ?_, ?_⟩
  · intro j hj
    rcases Nat.lt_succ_iff_lt_or_eq.1 hj with h | rfl
    · exact le_trans (h1 j h) (le_max_left _ _)
    · exact le_max_right _ _
  · rcases max_choice (g (ln l)).toInt (ndv a (16 * t.val + l.val)) with hm | hm
    · rw [hm]
      rcases h2 with h2 | ⟨j, hj, h2⟩
      · exact Or.inl h2
      · exact Or.inr ⟨j, by omega, h2⟩
    · rw [hm]; exact Or.inr ⟨t.val, by omega, rfl⟩

/-- The carry the segment starts from. -/
theorem acc_end (a : ℕ → BitVec 32) (k : ℕ) (g : IVec S16 32) (hg : AccOK a k g) :
    (extractAt ![15] (k0_pay4 g) inpos_S16_p15).toInt = lastNd a (16 * k) := by
  have e : extractAt ![15] (k0_pay4 g) inpos_S16_p15 = k0_pay4 g (ln 15) := by
    unfold extractAt
    congr 1
    funext x; rw [Fin.eq_zero x]; rfl
  have e2 : k0_pay4 g (ln 15)
      = xori (scan .max (xori g (broadcast S16 2147483648#32))) (broadcast S16 2147483648#32) (ln 15) := rfl
  obtain ⟨h1, l, -, h2⟩ := scan_flip g 15
  rw [e, e2]
  generalize xori (scan .max (xori g (broadcast S16 2147483648#32))) (broadcast S16 2147483648#32) (ln 15) = w at h1 h2
  apply eq_lastNd
  · rw [h2]; exact (hg l).1
  · intro j hj
    have hl : j % 16 < 16 := Nat.mod_lt _ (by omega)
    have := (hg ⟨j % 16, hl⟩).2.1 (j / 16) (by omega)
    rw [show 16 * (j / 16) + (⟨j % 16, hl⟩ : Fin 16).val = j by simp only; omega] at this
    exact le_trans this (h1 _ (by simp only; omega))
  · rw [h2]
    rcases (hg l).2.2 with h | ⟨j, hj, h⟩
    · exact Or.inl h
    · exact Or.inr ⟨16 * j + l.val, by have := l.isLt; omega, h⟩

/-! ## Offsets and trip counts in closed form -/

/-- The number of the grid point: which of the thirty-two segments it takes. -/
def wid (i : grid0.Coords) : ℕ := 2 * (i 1).val + (i 0).val

/-- Where its segment starts in its row. -/
def base (i : grid0.Coords) : ℕ := 512 * (wid i % 8)

theorem wid_lt : ∀ i : grid0.Coords, wid i < 32 := by decide +kernel

theorem off1_eq : ∀ i : grid0.Coords, k0_off1 i = ![wid i / 8, 0] := by decide +kernel

theorem t1_trips : ∀ i : grid0.Coords, (k0_t1_loop i).trips = 32 * (wid i % 8) := by decide +kernel

theorem t3_trips : k0_t3_loop.trips = 32 := by decide +kernel

theorem off2_eq : ∀ (i : grid0.Coords) (t : Fin (k0_t1_loop i).trips), k0_off2 i t = ![16 * t.val] := by decide +kernel

theorem off4_eq : ∀ (i : grid0.Coords) (t : Fin k0_t3_loop.trips), k0_off4 i t = ![base i + 16 * t.val] := by decide +kernel

end Cert.Proof.Pos
-- ==== Proof.Setup.lean ====
/- What both halves of the proof share: the program as the launch theorem sees it, the resource algebra, the arrays'
locations, and the position array the vector call leaves. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Pos
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Batch
public import Idealize.ShloMosaic.Lib.Writes
public import Idealize.ShloMosaic.Lib.Tactic

@[expose] public section

set_option maxRecDepth 16384

noncomputable section

namespace Cert.Proof.Setup

open Cert.KernelIdeal Cert.KernelIdeal.Gen Cert.Proof.Pos

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the copies' counters -/

abbrev UH : Type := URounds (GSem nD τ sig) ℕ
abbrev UB : Type := UR sig nD τ × Counters
abbrev UU : Type := UH × UB

local notation "𝕄" => MT nD τ sig (HIx 1) (Elt F) ℕ UU ℕ

abbrev EH : Emb UH (MT nD τ sig (HIx 1) (Elt F) ℕ UU ℕ) := embL
def EP : Emb (UR sig nD τ) (MT nD τ sig (HIx 1) (Elt F) ℕ UU ℕ) := (Emb.inl : Emb (UR sig nD τ) UB).trans embR

instance EP_landsIn : (EP (F := F)).LandsIn (upEmb : UEmb _ 𝕄) := by unfold EP embR; infer_instance

/-! ## The arrays -/

/-- The ids, the table, the positions as the vector call leaves them, as the dense call reads them, its output rows, and
the program's result, as locations of device `d`. -/
abbrev xLoc (d : Dev nD) : Loc nD τ sig := (SparseCore.T d).loc main_arg0
abbrev wLoc (d : Dev nD) : Loc nD τ sig := (SparseCore.T d).loc main_arg1
abbrev pLoc (d : Dev nD) : Loc nD τ sig := (SparseCore.T d).loc main_v0
abbrev qLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- The index of the ids at row `b`, column `j`. -/
abbrev ixIds (b : Fin 4) (j : Fin 4096) : S4x4096.Idx
  | 0 => b
  | 1 => j
  | ⟨_ + 2, h⟩ => absurd h (Nat.not_lt.2 (Nat.le_add_left _ _))

/-- Row `b` of the ids as a sequence of words. -/
def rowOf (x : S4x4096.Idx → BitVec 32) (b j : ℕ) : BitVec 32 :=
  if h : b < 4 ∧ j < 4096 then x (ixIds ⟨b, h.1⟩ ⟨j, h.2⟩) else 0#32

/-- The positions as the vector call leaves them: block `w` is segment `w % 8` of row `w / 8`, thirty-two chunks of sixteen. -/
def posArr (x : S4x4096.Idx → BitVec 32) : S32x32x16.Idx → BitVec 32 := fun j =>
  BitVec.ofNat 32 (posOf (rowOf x ((j 0).val / 8)) (512 * ((j 0).val % 8) + 16 * (j 1).val + (j 2).val))

end Cert.Proof.Setup
-- ==== Proof.Cnt.lean ====
/- The dense call's counts: which rows of a block are copied from the table (those at a position of sixteen or more), how
many there are before each row, and that the word the kernel sums is that count. -/
module

public import proofs.«01_k».proof.Proof.Setup
public import Idealize.ShloMosaic.Lib.WordSum
public import Idealize.ShloMosaic.Lib.ValueLayout

@[expose] public section

set_option maxRecDepth 16384

noncomputable section

namespace Cert.Proof.Cnt

open Cert.KernelIdeal Cert.KernelIdeal.Gen Cert.Proof.Pos Cert.Proof.Setup

open Idealize.ShloMosaic

variable {F : FTy → Type} [FloatOps F]

/-- A block of positions: one word per row. -/
abbrev Blk : Type := S1x1x2048.Idx → BitVec 32

/-- The index of row `t`'s position in a block. -/
abbrev ixQ (t : Fin 2048) : S1x1x2048.Idx := ValueIdx.ix3 (0 : Fin 1) (0 : Fin 1) t

/-- Row `t`'s position. -/
def pv (Q : Blk) (t : ℕ) : BitVec 32 := if h : t < 2048 then Q (ixQ ⟨t, h⟩) else 0#32

/-- Row `t` is copied from the table. -/
def far (Q : Blk) (t : ℕ) : Prop := 16 ≤ (pv Q t).toNat

instance (Q : Blk) : DecidablePred (far Q) := fun t => inferInstanceAs (Decidable (16 ≤ (pv Q t).toNat))

/-- The rows copied before row `t`. -/
def cnt (Q : Blk) (t : ℕ) : ℕ := Nat.count (far Q) t

/-- Every position is a row of the table. -/
def Small (Q : Blk) : Prop := ∀ t, (pv Q t).toNat < 8192

theorem cnt_le (Q : Blk) (t : ℕ) : cnt Q t ≤ t := Nat.count_le _
theorem cnt_succ_far (Q : Blk) (t : ℕ) (h : far Q t) : cnt Q (t + 1) = cnt Q t + 1 := by
  unfold cnt; rw [Nat.count_succ, if_pos h]
theorem cnt_succ_near (Q : Blk) (t : ℕ) (h : ¬ far Q t) : cnt Q (t + 1) = cnt Q t := by
  unfold cnt; rw [Nat.count_succ, if_neg h, Nat.add_zero]
theorem cnt_mono (Q : Blk) {a b : ℕ} (h : a ≤ b) : cnt Q a ≤ cnt Q b := by
  induction h with
  | refl => exact le_rfl
  | @step n _ ih =>
    refine ih.trans ?_
    by_cases hf : far Q n
    · rw [cnt_succ_far Q n hf]; exact Nat.le_succ _
    · rw [cnt_succ_near Q n hf]
theorem cnt_lt (Q : Blk) {a b : ℕ} (h : a < b) (hf : far Q a) : cnt Q a < cnt Q b :=
  lt_of_lt_of_le (by rw [cnt_succ_far Q a hf]; exact Nat.lt_succ_self _) (cnt_mono Q (Nat.succ_le_of_lt h))

theorem far_lt (Q : Blk) (t : ℕ) (h : far Q t) : t < 2048 := by
  by_contra hn; unfold far pv at h; rw [dif_neg hn] at h; exact absurd h (by decide)

theorem far_unique (Q : Blk) (a b : ℕ) (ha : far Q a) (hb : far Q b) (h : cnt Q a = cnt Q b) : a = b := by
  rcases lt_trichotomy a b with hl | hl | hl
  · exact absurd h (cnt_lt Q hl ha).ne
  · exact hl
  · exact absurd h (cnt_lt Q hl hb).ne'

theorem exists_sel (Q : Blk) (j : ℕ) : ∀ n, j < cnt Q n → ∃ t, far Q t ∧ cnt Q t = j
  | 0, h => absurd h (Nat.not_lt_zero _)
  | n + 1, h => by
    by_cases hf : far Q n
    · rw [cnt_succ_far Q n hf] at h
      rcases Nat.lt_succ_iff_lt_or_eq.1 h with h | h
      · exact exists_sel Q j n h
      · exact ⟨n, hf, h.symm⟩
    · rw [cnt_succ_near Q n hf] at h; exact exists_sel Q j n h

open Classical in
/-- The row the `j`-th copy fills. -/
def sel (Q : Blk) (j : ℕ) : ℕ := if h : ∃ t, far Q t ∧ cnt Q t = j then h.choose else 0

theorem sel_spec (Q : Blk) (j : ℕ) (hj : j < cnt Q 2048) : far Q (sel Q j) ∧ cnt Q (sel Q j) = j := by
  unfold sel; rw [dif_pos (exists_sel Q j 2048 hj)]; exact (exists_sel Q j 2048 hj).choose_spec

theorem sel_cnt (Q : Blk) (t : ℕ) (h : far Q t) : sel Q (cnt Q t) = t :=
  have := sel_spec Q (cnt Q t) (cnt_lt Q (far_lt Q t h) h)
  far_unique Q _ _ this.1 h this.2

theorem sel_inj (Q : Blk) (j j' : ℕ) (hj : j < cnt Q 2048) (hj' : j' < cnt Q 2048) (h : sel Q j = sel Q j') : j = j' := by
  rw [← (sel_spec Q j hj).2, ← (sel_spec Q j' hj').2, h]

/-! ## The words the kernel computes -/

theorem words : ∀ n : Fin 2049, (k1_cond1 (BitVec.ofNat 32 n.val) = 1#1 ↔ 0 < n.val) ∧ (k1_t2_loop (BitVec.ofNat 32 n.val)).trips = n.val
    ∧ (k1_t3_loop (BitVec.ofNat 32 n.val)).trips = 0 ∧ k1_chk2 (BitVec.ofNat 32 n.val) := by decide +kernel

theorem t1_trips : k1_t1_loop.trips = 2048 := by decide +kernel

theorem off1_eq : ∀ t : Fin k1_t1_loop.trips, k1_off1 t = ![0, 0, t.val] := by decide +kernel
theorem off2_eq : ∀ t : Fin k1_t1_loop.trips, k1_off2 t = ![t.val, 0] := by decide +kernel

theorem cond2_iff (v : BitVec 32) (h : v.toNat < 8192) : k1_cond2 v = 1#1 ↔ 16 ≤ v.toNat := by
  have hh : ∀ n : Fin 8192, k1_cond2 (BitVec.ofNat 32 n.val) = 1#1 ↔ 16 ≤ n.val := by decide +kernel
  have := hh ⟨v.toNat, h⟩
  rwa [BitVec.ofNat_toNat, BitVec.setWidth_eq] at this

theorem chk1_of (u v : BitVec 32) (h : v.toNat < 8192) : k1_chk1 u v := by
  intro _ _ a
  show k1_off3 v a + _ ≤ _
  unfold k1_off3
  fin_cases a
  · show v.toNat + 1 ≤ 8192; omega
  · show 0 + 2048 ≤ 2048; omega

theorem pay1_apply (Q : Blk) (t : Fin 2048) : k1_pay1 (F := F) Q (ValueIdx.ix1 t) = Q (ixQ t) :=
  shapeCast_apply Q shapeCasts_S1x1x2048_S2048 _ _ (by
    rw [Shape.rowMajor_val_three, Shape.rowMajor_val_one]
    show (0 * 1 + 0) * 2048 + t.val = t.val
    omega)

theorem pv_fin (Q : Blk) (t : Fin 2048) : pv Q t.val = Q (ixQ t) := by
  unfold pv; rw [dif_pos t.isLt]

theorem sge_iff (v : BitVec 32) (h : v.toNat < 8192) : (16#32).sle v = true ↔ 16 ≤ v.toNat := by
  have h1 : v.toInt = (v.toNat : ℤ) := BitVec.toInt_eq_toNat_of_lt (by omega)
  rw [BitVec.sle_eq_decide, decide_eq_true_eq, h1, show (16#32).toInt = (16 : ℤ) by decide]
  omega

/-- The word the kernel sums is the number of copied rows. -/
theorem v17_eq (Q : Blk) (hQ : Small Q) :
    extractAt ![0, 0] (k1_pay3 (F := F) (Q : S1x1x2048.Idx → Elt F .i32)) inpos_S1x1_p0_0 = BitVec.ofNat 32 (cnt Q 2048) := by
  have hel : ∀ t : Fin 2048, (shapeCast S1x2048 (extui 32 (cmpi .sge (k1_pay1 (F := F) Q) (broadcast S2048 16#32)) natLt_1_32) shapeCasts_S2048_S1x2048
      (ValueIdx.ix2 (0 : Fin 1) t)).toNat = if far Q t then 1 else 0 := by
    intro t
    refine (congrArg BitVec.toNat (ValueIdx.shapeCast_a_1a_apply (a := 2048) _ _ _ _)).trans ?_
    show (BitVec.setWidth 32 (BitVec.ofBool ((16#32).sle (k1_pay1 (F := F) Q (ValueIdx.ix1 t))))).toNat = _
    rw [pay1_apply, ← pv_fin Q t]
    by_cases h : far Q t
    · rw [(sge_iff _ (hQ t)).2 h, if_pos h]; decide
    · rw [Bool.eq_false_iff.2 fun hh => h ((sge_iff _ (hQ t)).1 hh), if_neg h]; decide
  have hle : (∑ t : Fin 2048, if far Q t then 1 else 0) = cnt Q 2048 := by
    unfold cnt
    rw [Nat.count_eq_card_filter_range, Finset.card_filter, Finset.sum_range]
  have hsum : ∀ j : S1.Idx, (∑ i ∈ Finset.univ.filter (fun i => reduces_S1x2048_S1.drop i = j),
      (shapeCast S1x2048 (extui 32 (cmpi .sge (k1_pay1 (F := F) Q) (broadcast S2048 16#32)) natLt_1_32) shapeCasts_S2048_S1x2048 i).toNat) = cnt Q 2048 := by
    intro j
    have hall : ∀ i : S1x2048.Idx, reduces_S1x2048_S1.drop i = j := fun i =>
      funext fun a => Fin.ext (by
        have h1 := (reduces_S1x2048_S1.drop i a).isLt; have h2 := (j a).isLt
        have h3 : S1.size a = 1 := by fin_cases a; rfl
        omega)
    rw [Finset.filter_true_of_mem fun i _ => hall i, ← hle]
    refine (Fintype.sum_equiv (Equiv.ofBijective (fun t : Fin 2048 => (ValueIdx.ix2 (0 : Fin 1) t : S1x2048.Idx)) ⟨fun a b h => congrFun h 1, fun i => ⟨i 1, ?_⟩⟩) _ _ fun t => (hel t).symm).symm
    funext a
    match a with
    | 0 => exact Subsingleton.elim (α := Fin 1) _ _
    | 1 => rfl
  refine BitVec.eq_of_toNat_eq ?_
  have hlt := cnt_le Q 2048
  rw [BitVec.toNat_ofNat, Nat.mod_eq_of_lt (by omega)]
  refine Eq.trans ?_ (hsum (ValueIdx.ix1 (0 : Fin 1)))
  refine Eq.trans ?_ (WordSum.toNat_multiReductionI_add _ reduces_S1x2048_S1 rfl _ (by rw [hsum]; omega))
  refine congrArg BitVec.toNat ?_
  unfold extractAt k1_pay3
  dsimp only
  rw [shapeCast_apply _ shapeCasts_S1_S1x1 _ (ValueIdx.ix1 (0 : Fin 1)) (by
    rw [Shape.rowMajor_val_two, Shape.rowMajor_val_one]; rfl)]

end Cert.Proof.Cnt

end
-- ==== Proof.TcGeo.lean ====
/- The dense call's rows: the elements of one row of a two-axis buffer as the body's copies name them, what a copied row
holds, and how the rows of a block make the block. -/
module

public import proofs.«01_k».proof.Proof.Cnt
public import Idealize.ShloMosaic.Lib.Pipeline.Frame

@[expose] public section

set_option maxRecDepth 16384

noncomputable section

namespace Cert.Proof.TcGeo

open Cert.KernelIdeal Cert.KernelIdeal.Gen Cert.Proof.Pos Cert.Proof.Setup Cert.Proof.Cnt

open Idealize.ShloMosaic

variable {F : FTy → Type}

/-- `n` rows of the table's width. -/
abbrev RS (n : ℕ) : Shape := ⟨2, ![n, 2048]⟩

/-- Row `o` of a buffer, as the body's copies name it. -/
abbrev rowM {n : ℕ} {sp : Space} (m : Memref sig .tc sp (RS n) .f32) (o : Fin (RS n).rank → ℕ) (ho : ∀ a, o a + S1x2048.size a ≤ (RS n).size a) :
    Memref sig .tc sp S2048 .f32 :=
  (m.slice (Rect.unit (s := RS n) o S1x2048.size ho) (fun _ => rfl)).squeeze S2048 squeezes_S1x2048_S2048

/-- The elements of row `t`. -/
def rowS {n : ℕ} {sp : Space} (m : Memref sig .tc sp (RS n) .f32) (t : ℕ) : Finset m.view.ty.Idx :=
  (Finset.univ.filter fun y : (RS n).Idx => (y 0).val = t).map m.view.emb

theorem row_emb {n : ℕ} {sp : Space} (m : Memref sig .tc sp (RS n) .f32) (o : Fin (RS n).rank → ℕ) (ho : ∀ a, o a + S1x2048.size a ≤ (RS n).size a)
    (t : ℕ) (ht : t < n) (e : o = ![t, 0]) (c : Fin 2048) :
    (rowM m o ho).view.emb (ValueIdx.ix1 c) = m.view.emb (ValueIdx.ix2 ⟨t, ht⟩ c) := by
  subst e
  show m.view.emb ((Rect.unit (s := RS n) ![t, 0] S1x2048.size ho).emb (Shape.reshapeEquiv (s := S1x2048) (s' := S2048) _ (ValueIdx.ix1 c))) = _
  congr 1
  rw [show ∀ h, Shape.reshapeEquiv (s := S1x2048) (s' := S2048) h (ValueIdx.ix1 c) = Fin.cons ⟨0, Nat.one_pos⟩ (ValueIdx.ix1 c) from
    fun h => Shape.reshapeEquiv_cons_one (d := ![2048]) h _]
  refine Rect.emb_eq_of_coords _ _ _ fun a => ?_
  fin_cases a
  · show t = t + 1 * 0; omega
  · show c.val = 0 + 1 * c.val; omega

theorem row_set {n : ℕ} {sp : Space} (m : Memref sig .tc sp (RS n) .f32) (o : Fin (RS n).rank → ℕ) (ho : ∀ a, o a + S1x2048.size a ≤ (RS n).size a)
    (t : ℕ) (ht : t < n) (e : o = ![t, 0]) : (rowM m o ho).view.set = rowS m t := by
  ext i
  constructor
  · intro h
    obtain ⟨y, -, rfl⟩ := Finset.mem_map.mp h
    obtain ⟨c, rfl⟩ : ∃ c : Fin 2048, y = ValueIdx.ix1 c := ⟨y 0, ValueIdx.eq_ix1 y⟩
    rw [row_emb m o ho t ht e c]
    exact Finset.mem_map_of_mem _ (Finset.mem_filter.2 ⟨Finset.mem_univ _, rfl⟩)
  · intro h
    obtain ⟨y, hy, rfl⟩ := Finset.mem_map.mp h
    have hy := (Finset.mem_filter.1 hy).2
    obtain ⟨c, rfl⟩ : ∃ c : Fin 2048, y = ValueIdx.ix2 ⟨t, ht⟩ c := ⟨y 1, by
      refine (ValueIdx.eq_ix2 y).trans ?_
      congr 1; exact Fin.ext hy⟩
    rw [← row_emb m o ho t ht e c]
    exact View.emb_mem_set _ _

/-- What a copied row holds: the payload, which is the row of `X`. -/
theorem row_write {n : ℕ} {sp : Space} (m : Memref sig .tc sp (RS n) .f32) (hm : m.IsWhole) (o : Fin (RS n).rank → ℕ)
    (ho : ∀ a, o a + S1x2048.size a ≤ (RS n).size a) (t : ℕ) (ht : t < n) (e : o = ![t, 0]) (f : m.view.ty.Contents (Elt F))
    (w : S2048.Idx → Elt F .f32) (X : (RS n).Idx → Elt F .f32) (hw : ∀ c, w (ValueIdx.ix1 c) = X (ValueIdx.ix2 ⟨t, ht⟩ c)) :
    ∀ i ∈ rowS m t, (rowM m o ho).view.write (Elt F) f w Finset.univ i = hm.unread X i := by
  intro i hi
  rw [← row_set m o ho t ht e] at hi
  obtain ⟨y, -, rfl⟩ := Finset.mem_map.mp hi
  rw [View.write_emb_of_mem _ _ (Finset.mem_univ _)]
  obtain ⟨c, rfl⟩ : ∃ c : Fin 2048, y = ValueIdx.ix1 c := ⟨y 0, ValueIdx.eq_ix1 y⟩
  rw [row_emb m o ho t ht e c, hw]
  have h := congrFun (hm.read_unread (Val := Elt F) X) (ValueIdx.ix2 ⟨t, ht⟩ c)
  rw [View.read_apply] at h
  rw [← h, cast_cast, cast_eq]

/-- Two contents of a buffer held whole that agree at an index agree at its element. -/
theorem unread_congr {sp : Space} {s : Shape} {e : EltTy} (m : Memref sig .tc sp s e) (hm : m.IsWhole) (X Y : s.Idx → Elt F e) (y : s.Idx)
    (h : X y = Y y) : (hm.unread X : m.view.ty.Contents (Elt F)) (m.view.emb y) = hm.unread Y (m.view.emb y) := by
  have h1 := congrFun (hm.read_unread (Val := Elt F) X) y
  have h2 := congrFun (hm.read_unread (Val := Elt F) Y) y
  rw [View.read_apply] at h1 h2
  exact (cast_inj _).1 (h1.trans (h.trans h2.symm))

/-! ## The rows not yet copied -/

/-- The rows from `t` on and every row that is not copied. -/
def remS (Q : Blk) {sp : Space} (m : Memref sig .tc sp (RS 2048) .f32) (t : ℕ) : Finset m.view.ty.Idx :=
  (Finset.univ.filter fun y : (RS 2048).Idx => t ≤ (y 0).val ∨ ¬ far Q (y 0).val).map m.view.emb

theorem remS_zero (Q : Blk) {sp : Space} (m : Memref sig .tc sp (RS 2048) .f32) : remS Q m 0 = m.view.set := by
  unfold remS View.set
  rw [Finset.filter_true_of_mem fun y _ => Or.inl (Nat.zero_le _)]

theorem remS_near (Q : Blk) {sp : Space} (m : Memref sig .tc sp (RS 2048) .f32) (t : ℕ) (h : ¬ far Q t) : remS Q m t = remS Q m (t + 1) := by
  unfold remS; congr 1; ext y
  simp only [Finset.mem_filter, Finset.mem_univ, true_and]
  constructor
  · rintro (h' | h')
    · rcases Nat.eq_or_lt_of_le h' with e | e
      · right; rw [← e]; exact h
      · exact Or.inl e
    · exact Or.inr h'
  · rintro (h' | h')
    · exact Or.inl (by omega)
    · exact Or.inr h'

theorem row_sub (Q : Blk) {sp : Space} (m : Memref sig .tc sp (RS 2048) .f32) (t : ℕ) : rowS m t ⊆ remS Q m t := by
  unfold remS rowS
  refine Finset.map_subset_map.2 fun y hy => ?_
  simp only [Finset.mem_filter, Finset.mem_univ, true_and] at hy ⊢
  exact Or.inl hy.ge

theorem remS_far (Q : Blk) {sp : Space} (m : Memref sig .tc sp (RS 2048) .f32) (t : ℕ) (h : far Q t) :
    remS Q m t \ rowS m t = remS Q m (t + 1) := by
  unfold remS rowS
  ext i
  simp only [Finset.mem_sdiff, Finset.mem_map, Finset.mem_filter, Finset.mem_univ, true_and]
  constructor
  · rintro ⟨⟨y, hy, rfl⟩, hn⟩
    refine ⟨y, ?_, rfl⟩
    rcases hy with hy | hy
    · rcases Nat.eq_or_lt_of_le hy with e | e
      · exact absurd ⟨y, e.symm, rfl⟩ hn
      · exact Or.inl e
    · exact Or.inr hy
  · rintro ⟨y, hy, rfl⟩
    refine ⟨⟨y, hy.imp (fun h => by omega) id, rfl⟩, ?_⟩
    rintro ⟨z, hz, he⟩
    rw [m.view.emb.injective he] at hz
    rcases hy with hy | hy
    · omega
    · rw [hz] at hy; exact hy h

/-- The rows the copies fill, over the copies. -/
theorem rows_join (Q : Blk) {sp : Space} (m : Memref sig .tc sp (RS 2048) .f32) :
    m.view.set = remS Q m 2048 ∪ (Finset.univ : Finset (Fin (cnt Q 2048))).biUnion fun j => rowS m (sel Q j.val) := by
  ext i
  simp only [Finset.mem_union, Finset.mem_biUnion, Finset.mem_univ, true_and]
  constructor
  · intro h
    obtain ⟨y, -, rfl⟩ := Finset.mem_map.mp h
    by_cases hf : far Q (y 0).val
    · right
      refine ⟨⟨cnt Q (y 0).val, cnt_lt Q (y 0).isLt hf⟩, ?_⟩
      rw [sel_cnt Q _ hf]
      exact Finset.mem_map_of_mem _ (Finset.mem_filter.2 ⟨Finset.mem_univ _, rfl⟩)
    · left
      exact Finset.mem_map_of_mem _ (Finset.mem_filter.2 ⟨Finset.mem_univ _, Or.inr hf⟩)
  · rintro (h | ⟨j, h⟩)
    · obtain ⟨y, -, rfl⟩ := Finset.mem_map.mp h; exact View.emb_mem_set _ _
    · obtain ⟨y, -, rfl⟩ := Finset.mem_map.mp h; exact View.emb_mem_set _ _

theorem rows_disj (Q : Blk) {sp : Space} (m : Memref sig .tc sp (RS 2048) .f32) :
    ∀ j ∈ (Finset.univ : Finset (Fin (cnt Q 2048))), ∀ j' ∈ (Finset.univ : Finset (Fin (cnt Q 2048))), j ≠ j' →
      Disjoint (rowS m (sel Q j.val)) (rowS m (sel Q j'.val)) := by
  intro j _ j' _ hne
  unfold rowS
  rw [Finset.disjoint_map, Finset.disjoint_left]
  intro y hy hy'
  simp only [Finset.mem_filter, Finset.mem_univ, true_and] at hy hy'
  exact hne (Fin.ext (sel_inj Q _ _ j.isLt j'.isLt (hy.symm.trans hy')))

theorem rem_disj (Q : Blk) {sp : Space} (m : Memref sig .tc sp (RS 2048) .f32) :
    Disjoint (remS Q m 2048) ((Finset.univ : Finset (Fin (cnt Q 2048))).biUnion fun j => rowS m (sel Q j.val)) := by
  rw [Finset.disjoint_biUnion_right]
  intro j _
  unfold rowS remS
  rw [Finset.disjoint_map, Finset.disjoint_left]
  intro y hy hy'
  simp only [Finset.mem_filter, Finset.mem_univ, true_and] at hy hy'
  rcases hy with hy | hy
  · have := (y 0).isLt; have h2 : (RS 2048).size 0 = 2048 := rfl; omega
  · rw [hy'] at hy; exact hy (sel_spec Q _ j.isLt).1

/-- An index of the last remaining rows is at a row that is not copied. -/
theorem rem_last (Q : Blk) {sp : Space} (m : Memref sig .tc sp (RS 2048) .f32) (i : m.view.ty.Idx) (h : i ∈ remS Q m 2048) :
    ∃ y : (RS 2048).Idx, m.view.emb y = i ∧ ¬ far Q (y 0).val := by
  obtain ⟨y, hy, rfl⟩ := Finset.mem_map.mp h
  simp only [Finset.mem_filter, Finset.mem_univ, true_and] at hy
  refine ⟨y, rfl, hy.resolve_left ?_⟩
  have := (y 0).isLt; have h2 : (RS 2048).size 0 = 2048 := rfl; omega

/-! ## The block the body leaves -/

variable [FloatOps F]

/-- The row of the table at position `v`. -/
def rowW (w : S8192x2048.Idx → Elt F .f32) (v : ℕ) (c : Fin 2048) : Elt F .f32 := w (ValueIdx.ix2 ⟨v % 8192, Nat.mod_lt _ (by decide)⟩ c)

/-- The block the body leaves: the copied rows from the table, the others from the product. -/
def fin (Q : Blk) (W8 : S16x2048.Idx → Elt F .f32) (w : S8192x2048.Idx → Elt F .f32) : S2048x2048.Idx → Elt F .f32 := fun y =>
  if far Q (y 0).val then rowW w (pv Q (y 0).val).toNat (y 1) else k1_pay2 (F := F) Q W8 y

theorem fin_far (Q : Blk) (W8 : S16x2048.Idx → Elt F .f32) (w : S8192x2048.Idx → Elt F .f32) (t : ℕ) (ht : t < 2048) (h : far Q t) (c : Fin 2048) :
    fin Q W8 w (ValueIdx.ix2 ⟨t, ht⟩ c) = rowW w (pv Q t).toNat c := by
  unfold fin; exact if_pos h
theorem fin_near (Q : Blk) (W8 : S16x2048.Idx → Elt F .f32) (w : S8192x2048.Idx → Elt F .f32) (y : S2048x2048.Idx) (h : ¬ far Q (y 0).val) :
    fin Q W8 w y = k1_pay2 (F := F) Q W8 y := by
  unfold fin; exact if_neg h

/-- The payload of a copy out of the table. -/
theorem table_read (o : Fin (RS 8192).rank → ℕ) (ho : ∀ a, o a + S1x2048.size a ≤ (RS 8192).size a) (v : ℕ) (hv : v < 8192) (e : o = ![v, 0])
    (w : S8192x2048.Idx → Elt F .f32) (c : Fin 2048) :
    (rowM (n := 8192) (Memref.whole main_arg1) o ho).view.read (Elt F) w (ValueIdx.ix1 c) = rowW w v c := by
  show w ((rowM (n := 8192) (Memref.whole main_arg1) o ho).view.emb (ValueIdx.ix1 c)) = _
  rw [row_emb (n := 8192) (Memref.whole main_arg1) o ho v hv e c]
  show w (ValueIdx.ix2 ⟨v, hv⟩ c) = w (ValueIdx.ix2 ⟨v % 8192, _⟩ c)
  congr 2
  exact Fin.ext (Nat.mod_eq_of_lt hv).symm

end Cert.Proof.TcGeo

end
-- ==== Proof.TcBody.lean ====
/- The dense call's body at one grid point: the product stored over the block, then one counted copy out of the table for
each row at a position of sixteen or more, and as many waits. -/
module

public import proofs.«01_k».proof.Proof.TcGeo
public import Idealize.ShloMosaic.Lib.WholeRead
public import Idealize.ShloMosaic.Lib.Ring

@[expose] public section

set_option maxRecDepth 16384

noncomputable section

namespace Cert.Proof.TcBody

open Cert.KernelIdeal Cert.KernelIdeal.Gen Cert.Proof.Pos Cert.Proof.Setup Cert.Proof.Cnt Cert.Proof.TcGeo

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Body

variable (d : Dev nD) (arg1 : Memref sig .tc .vmem S1x1x2048 .i32) (h1 : arg1.IsWhole) (arg2 : Memref sig .tc .smem S1x1x2048 .i32) (h2 : arg2.IsWhole)
  (arg3 : Memref sig .tc .vmem S16x2048 .f32) (h3 : arg3.IsWhole) (arg5 : Memref sig .tc .vmem S2048x2048 .f32) (h5 : arg5.IsWhole)
  (Q : Blk) (W8 : S16x2048.Idx → Elt F .f32) (w : S8192x2048.Idx → Elt F .f32) (q : PosShare TreeShare)

/-- The table's row `v`, as a set of its elements. -/
abbrev tabS (v : ℕ) : Finset (Idx (wLoc d)) := rowS (n := 8192) (Memref.whole main_arg1) v

/-- What the `j`-th copy delivers: its row of the block, and the share of the table's row it read. -/
def deliv (j : Fin (cnt Q 2048)) : sProp 𝕄 :=
  iprop((arg5.view.loc (T d) ↦[rowS (n := 2048) arg5 (sel Q j.val)]{fullShare} h5.unread (fin Q W8 w))
    ∗ wLoc d ↦[tabS d (pv Q (sel Q j.val)).toNat]{Transfers.shareTokN q j.val} w)

instance deliv_storable (j : Fin (cnt Q 2048)) : Storable (upEmb : UEmb _ 𝕄) (deliv d arg5 h5 Q W8 w q j) := by
  unfold deliv; infer_instance

/-- One row's credit on the semaphore. -/
abbrev NN : ℕ := (rowM (n := 2048) arg5 ![0, 0] inb_S2048x2048_S1x2048_0_0).view.dmaCredit

abbrev batch (k u : ℕ) : sProp 𝕄 :=
  Transfers.Batch (countersEmb (U := UU)) (T d) (.dma cc1_scratch0.sem) (none : HIx 1) (NN arg5) (deliv d arg5 h5 Q W8 w q) k u

/-- Before trip `t` of the issue loop. -/
def issueInv (t : ℕ) (_ : Unit) : sProp 𝕄 :=
  iprop((arg2.view.loc (T d) ↦[arg2.view.set]{fullShare} h2.unread (Q : S1x1x2048.Idx → Elt F .i32))
    ∗ (wLoc d ↦{Transfers.shareDrop q (cnt Q t)} w)
    ∗ bigSep (Finset.range (cnt Q t)) (fun j => wLoc d ↦[Finset.univ \ tabS d (pv Q (sel Q j)).toNat]{Transfers.shareTokN q j} w)
    ∗ (arg5.view.loc (T d) ↦[remS Q arg5 t]{fullShare} h5.unread (k1_pay2 (F := F) Q W8))
    ∗ batch d arg5 h5 Q W8 w q (cnt Q t) 0)

/-- Before trip `k` of the wait loop. -/
def drainInv (Wt : Waits sig (HIx 1)) (k : ℕ) (_ : Unit) : sProp 𝕄 :=
  iprop(⌜k ≤ cnt Q 2048⌝ ∗ (∃ W', ⌜∀ p ∈ W', p ∈ Wt ∨ p.2 = none⌝ ∗ owes (T d) 0 W')
    ∗ (if k < cnt Q 2048 then batch d arg5 h5 Q W8 w q (cnt Q 2048) (k * NN arg5)
       else iprop(semVal (T d, SemLoc.dma cc1_scratch0.sem) 0 ∗ bigSep Finset.univ (deliv d arg5 h5 Q W8 w q))))

omit [FloatOps F] in
theorem readAt_whole3 {sp : Space} (m : Memref sig .tc sp S1x1x2048 .i32) (hm : m.IsWhole) (X : S1x1x2048.Idx → Elt F .i32) :
    View.readAt (Elt F) m.view (Rect.unit (s := S1x1x2048) ![0, 0, 0] S1x1x2048.size inb_S1x1x2048_S1x1x2048_0_0_0).toLoadRect (hm.unread X) = X :=
  funext fun y => (hm.readAt_unread X _ y).trans (congrArg X (funext fun a => Fin.ext (by
    show (![0, 0, 0] : Fin 3 → ℕ) a + 1 * (y a).val = _; fin_cases a <;> (show 0 + 1 * _ = _; omega))))

omit [FloatOps F] in
theorem readAt_whole2 {sp : Space} (m : Memref sig .tc sp S16x2048 .f32) (hm : m.IsWhole) (X : S16x2048.Idx → Elt F .f32) :
    View.readAt (Elt F) m.view (Rect.unit (s := S16x2048) ![0, 0] S16x2048.size inb_S16x2048_S16x2048_0_0).toLoadRect (hm.unread X) = X :=
  funext fun y => (hm.readAt_unread X _ y).trans (congrArg X (funext fun a => Fin.ext (by
    show (![0, 0] : Fin 2 → ℕ) a + 1 * (y a).val = _; fin_cases a <;> (show 0 + 1 * _ = _; omega))))

omit [FloatOps F] in
theorem writes_whole {sp : Space} {S : Shape} {e : EltTy} (m : Memref sig .tc sp S e) (hm : m.IsWhole) {off : Fin S.rank → ℕ} (h : off = fun _ => 0)
    (inb : ∀ a, off a + S.size a ≤ S.size a) (f : m.view.ty.Contents (Elt F)) (X : S.Idx → Elt F e) :
    m.view.writes (Elt F) f [⟨Rect.unit (s := S) off S.size inb, X⟩] = hm.unread X :=
  hm.eq_unread (funext fun y => View.read_writes_cons_hit_of_coords m.view f (Rect.unit (s := S) off S.size inb) X [] y y fun a => by
    subst h; show _ = 0 + 1 * _; omega)

theorem z2 : (![0, 0] : Fin 2 → ℕ) = fun _ => 0 := funext fun a => by fin_cases a <;> rfl

theorem stored (f5 : arg5.view.ty.Contents (Elt F)) : arg5.view.writes (Elt F) f5
      [⟨Rect.unit (s := S2048x2048) ![0, 0] S2048x2048.size inb_S2048x2048_S2048x2048_0_0,
          k1_pay2
            (View.readAt (Elt F) arg1.view
              (Rect.unit (s := S1x1x2048) ![0, 0, 0] S1x1x2048.size inb_S1x1x2048_S1x1x2048_0_0_0).toLoadRect (h1.unread (Q : S1x1x2048.Idx → Elt F .i32)))
            (View.readAt (Elt F) arg3.view (Rect.unit (s := S16x2048) ![0, 0] S16x2048.size inb_S16x2048_S16x2048_0_0).toLoadRect
              (h3.unread W8))⟩] = h5.unread (k1_pay2 (F := F) Q W8) :=
  (writes_whole arg5 h5 z2 _ _ _).trans (congrArg h5.unread (congrArg₂ (k1_pay2 (F := F)) (readAt_whole3 arg1 h1 _) (readAt_whole2 arg3 h3 _)))

theorem words_at (v : BitVec 32) (n : ℕ) (hn : n ≤ 2048) (h : v = BitVec.ofNat 32 n) :
    (k1_cond1 v = 1#1 ↔ 0 < n) ∧ (k1_t2_loop v).trips = n ∧ (k1_t3_loop v).trips = 0 := by
  subst h
  exact ⟨(words ⟨n, Nat.lt_succ_of_le hn⟩).1, (words ⟨n, Nat.lt_succ_of_le hn⟩).2.1, (words ⟨n, Nat.lt_succ_of_le hn⟩).2.2.1⟩

/-- What the copy out of row `t` delivers is the delivery of its number. -/
theorem deliv_of (t : ℕ) (hf : far Q t) (hQ : Small Q) (o : Fin (RS 2048).rank → ℕ) (ho : ∀ a, o a + S1x2048.size a ≤ (RS 2048).size a) (e : o = ![t, 0])
    (o' : Fin (RS 8192).rank → ℕ) (ho' : ∀ a, o' a + S1x2048.size a ≤ (RS 8192).size a) (e' : o' = ![(pv Q t).toNat, 0]) (hj : cnt Q t < cnt Q 2048) :
    (iprop((arg5.view.loc (T d) ↦[rowS (n := 2048) arg5 t]{fullShare}
        ((rowM (n := 2048) arg5 o ho).view.write (Elt F) (h5.unread (k1_pay2 (F := F) Q W8))
          (ReadAs.same.apply ((rowM (n := 8192) (Memref.whole main_arg1) o' ho').view.read (Elt F) w)) Finset.univ))
      ∗ (wLoc d ↦[(rowM (n := 8192) (Memref.whole main_arg1) o' ho').view.set]{Transfers.shareTokN q (cnt Q t)} w)) : sProp 𝕄)
      ⊢ deliv d arg5 h5 Q W8 w q ⟨cnt Q t, hj⟩ := by
  unfold deliv
  have ht : t < 2048 := far_lt Q t hf
  have hs : sel Q (⟨cnt Q t, hj⟩ : Fin (cnt Q 2048)).val = t := sel_cnt Q t hf
  rw [hs, row_set (n := 8192) (Memref.whole main_arg1) o' ho' _ (hQ t) e']
  refine sep_mono (Entails.of_eq (pointsTo_congr ?_)) .rfl
  refine row_write (n := 2048) arg5 h5 o ho t ht e _ _ _ fun c => ?_
  exact (table_read (F := F) o' ho' _ (hQ t) e' w c).trans (fin_far (F := F) Q W8 w t ht hf c).symm

/-- The table whole again. -/
theorem join_w (hQ : Small Q) : (iprop((wLoc d ↦{Transfers.shareDrop q (cnt Q 2048)} w)
      ∗ bigSep (Finset.range (cnt Q 2048)) (fun j => wLoc d ↦[Finset.univ \ tabS d (pv Q (sel Q j)).toNat]{Transfers.shareTokN q j} w)
      ∗ bigSep Finset.univ (fun j : Fin (cnt Q 2048) => wLoc d ↦[tabS d (pv Q (sel Q j.val)).toNat]{Transfers.shareTokN q j.val} w)) : sProp 𝕄)
      ⊢ wLoc d ↦{q} w := by
  rw [Ring.bigSep_fin_eq_range (cnt Q 2048)
    (fun j : Fin (cnt Q 2048) => (wLoc d ↦[tabS d (pv Q (sel Q j.val)).toNat]{Transfers.shareTokN q j.val} w : sProp 𝕄))
    (fun j => wLoc d ↦[tabS d (pv Q (sel Q j)).toNat]{Transfers.shareTokN q j} w) (fun _ _ => rfl), ← bigSep_sep']
  refine (sep_mono .rfl (bigSep_mono fun j _ => ?_)).trans (Transfers.pointsTo_toks_range q (cnt Q 2048)).2
  exact (sep_comm.1).trans (pointsTo_split_subset (Finset.subset_univ _)).2

/-- The block whole again. -/
theorem join_rows : (iprop((arg5.view.loc (T d) ↦[remS Q arg5 2048]{fullShare} h5.unread (k1_pay2 (F := F) Q W8))
      ∗ bigSep Finset.univ (fun j : Fin (cnt Q 2048) => arg5.view.loc (T d) ↦[rowS (n := 2048) arg5 (sel Q j.val)]{fullShare} h5.unread (fin Q W8 w))) : sProp 𝕄)
      ⊢ arg5.view.loc (T d) ↦[arg5.view.set]{fullShare} h5.unread (fin Q W8 w) := by
  rw [← pointsTo_biUnion _ _ (rows_disj Q arg5), rows_join Q arg5]
  refine (sep_mono (Entails.of_eq (pointsTo_congr fun i hi => ?_)) .rfl).trans (pointsTo_union (rem_disj Q arg5)).2
  obtain ⟨y, rfl, hy⟩ := rem_last Q arg5 i hi
  exact unread_congr arg5 h5 _ _ y (fin_near (F := F) Q W8 w y hy).symm

/-- One row's copy issued. -/
theorem issue_wp (t : ℕ) (hf : far Q t) (hQ : Small Q) (o : Fin (RS 2048).rank → ℕ) (ho : ∀ a, o a + S1x2048.size a ≤ (RS 2048).size a) (e : o = ![t, 0])
    (o' : Fin (RS 8192).rank → ℕ) (ho' : ∀ a, o' a + S1x2048.size a ≤ (RS 8192).size a) (e' : o' = ![(pv Q t).toNat, 0])
    {hsrc : (rowM (n := 8192) (Memref.whole main_arg1) o' ho').view.WordExact} {hdst : (rowM (n := 2048) arg5 o ho).view.WordExact}
    {hsem : DmaTarget.Typed (nD := nD) Space.hbm (SemLoc.dma cc1_scratch0.sem) (.here (p := (.tc : Proc τ)) (rowM (n := 2048) arg5 o ho))}
    {k : PUnit → Prog (TpuEff nD τ sig (Elt F) Λ₀ .tc) PUnit} {R : PUnit → sProp 𝕄} :
    (iprop((wLoc d ↦[tabS d (pv Q t).toNat]{Transfers.shareTokN q (cnt Q t)} w)
        ∗ (arg5.view.loc (T d) ↦[rowS (n := 2048) arg5 t]{fullShare} h5.unread (k1_pay2 (F := F) Q W8))
        ∗ batch d arg5 h5 Q W8 w q (cnt Q t) 0) : sProp 𝕄)
      ⊢ iprop((batch d arg5 h5 Q W8 w q (cnt Q t + 1) 0 -∗ wp frame (wpE (defs₀ (F := F)) 𝒱₀ (T d) none) Set.univ (k ⟨⟩) R)
        -∗ wp frame (wpE (defs₀ (F := F)) 𝒱₀ (T d) none) Set.univ
          (.op (.enqueueDma (p := (.tc : Proc τ)) (rowM (n := 8192) (Memref.whole main_arg1) o' ho') (.here (p := (.tc : Proc τ)) (rowM (n := 2048) arg5 o ho)) (SemLoc.dma cc1_scratch0.sem)
            hsrc hdst hsem) k) R) := by
  have hlt : cnt Q t < cnt Q 2048 := cnt_lt Q (far_lt Q _ hf) hf
  have hset : tabS d (pv Q t).toNat = (rowM (n := 8192) (Memref.whole main_arg1) o' ho').view.set :=
    (row_set (n := 8192) (Memref.whole main_arg1) o' ho' _ (hQ t) e').symm
  rw [hset]
  have hN : (rowM (n := 2048) arg5 o ho).view.amount (SemLoc.dma cc1_scratch0.sem) = NN arg5 := rfl
  have hS : (rowM (n := 2048) arg5 o ho).view.set ⊆ rowS (n := 2048) arg5 t := (row_set (n := 2048) arg5 o ho t (far_lt Q _ hf) e).subset
  have hD := deliv_of d arg5 h5 Q W8 w q t hf hQ o ho e o' ho' e' hlt
  exact Transfers.wp_dmaBatch (defs := defs₀ (F := F)) (countersEmb (U := UU)) 𝒱₀ (T d) none (src := rowM (n := 8192) (Memref.whole main_arg1) o' ho') (dst := rowM (n := 2048) arg5 o ho)
     (hsrc := hsrc) (hdst := hdst) (hsem := hsem) (k := k) (Q := R) (via := .same) (D := deliv d arg5 h5 Q W8 w q) (j := cnt Q t) (u := 0) (fs := w) (fd := h5.unread (k1_pay2 (F := F) Q W8)) (none : HIx 1) (NN arg5) hN hS hlt (Nat.zero_le _)
    hD

theorem v17_read (X : S1x1x2048.Idx → Elt F .i32) (Q : Blk) (hQ : Small Q) (h : X = (Q : S1x1x2048.Idx → Elt F .i32)) :
    extractAt ![0, 0] (k1_pay3 (F := F) X) inpos_S1x1_p0_0 = BitVec.ofNat 32 (cnt Q 2048) := by
  subst h; exact v17_eq (F := F) _ hQ

theorem tc_loops (i : grid1.Coords) (hQ : Small Q) (v17 : BitVec 32) (h17 : v17 = BitVec.ofNat 32 (cnt Q 2048)) (hc : k1_cond1 v17 = 1#1) (hk : k1_chk2 v17)
    (Wt : Waits sig (HIx 1)) :
    (iprop((arg1.view.loc (T d) ↦[arg1.view.set]{fullShare} h1.unread (Q : S1x1x2048.Idx → Elt F .i32))
        ∗ (arg2.view.loc (T d) ↦[arg2.view.set]{fullShare} h2.unread (Q : S1x1x2048.Idx → Elt F .i32))
        ∗ (arg3.view.loc (T d) ↦[arg3.view.set]{fullShare} h3.unread W8)
        ∗ (arg5.view.loc (T d) ↦[arg5.view.set]{fullShare} h5.unread (k1_pay2 (F := F) Q W8))
        ∗ (wLoc d ↦{q} w) ∗ semVal (T d, SemLoc.dma cc1_scratch0.sem) 0 ∗ owes (T d) 0 Wt) : sProp 𝕄)
      ⊢ wp frame (wpE (defs₀ (F := F)) 𝒱₀ (T d) none) Set.univ
          (do
            Scf.Loop.for k1_t1_loop k1_t1_ok (⟨⟩ : Unit) (k1_t1_body i arg1 h1 arg2 h2 arg3 h3 (Memref.whole main_arg1) (Memref.isWhole_whole _) arg5 h5 cc1_scratch0 v17 hc)
            Scf.Loop.for (k1_t2_loop v17) (k1_t2_ok v17 hk hc) (⟨⟩ : Unit)
              (k1_t2_body i arg1 h1 arg2 h2 arg3 h3 (Memref.whole main_arg1) (Memref.isWhole_whole _) arg5 h5 cc1_scratch0 v17 hk hc)
            Scf.Loop.for (k1_t3_loop v17) (k1_t3_ok v17 hk hc) (⟨⟩ : Unit)
              (k1_t3_body i arg1 h1 arg2 h2 arg3 h3 (Memref.whole main_arg1) (Memref.isWhole_whole _) arg5 h5 cc1_scratch0 v17 hk hc)
            pure ⟨⟩ : Prog (TpuEff nD τ sig (Elt F) Λ₀ .tc) PUnit)
          fun _ => iprop((arg1.view.loc (T d) ↦[arg1.view.set]{fullShare} h1.unread (Q : S1x1x2048.Idx → Elt F .i32))
            ∗ (arg2.view.loc (T d) ↦[arg2.view.set]{fullShare} h2.unread (Q : S1x1x2048.Idx → Elt F .i32))
            ∗ (arg3.view.loc (T d) ↦[arg3.view.set]{fullShare} h3.unread W8)
            ∗ (arg5.view.loc (T d) ↦[arg5.view.set]{fullShare} h5.unread (fin Q W8 w))
            ∗ (wLoc d ↦{q} w) ∗ semVal (T d, SemLoc.dma cc1_scratch0.sem) 0
            ∗ ∃ W', ⌜∀ p ∈ W', p ∈ Wt ∨ p.2 = none⌝ ∗ owes (T d) 0 W') := by
  obtain ⟨hw1, hw2, hw3⟩ := words_at v17 (cnt Q 2048) (cnt_le Q 2048) h17
  have hpos : 0 < cnt Q 2048 := hw1.1 hc
  iintro ⟨H1, H2, H3, H5, Hw, Hs, HO⟩
  imod (Transfers.batch_alloc' (Lvl := ℕ) (countersEmb (U := UU)) (T d) (none : HIx 1) (NN arg5) (deliv d arg5 h5 Q W8 w q)
    (sm := .dma cc1_scratch0.sem) (E := Set.univ)) $$ Hs with HB
  sl_for (issueInv d arg2 h2 arg5 h5 Q W8 w q) $$ [H2 H5 Hw HB]
  case region =>
    intro t _
    unfold issueInv
    iintro ⟨H2, Hw, Hc, H5, HB⟩
    sl_exec
    have hr : tc_loops.sl.r (F := F) arg2 h2 Q t = pv Q t.val := by
      unfold tc_loops.sl.r
      rw [h2.readAt_unread, pv_fin Q ⟨t.val, Cnt.t1_trips ▸ t.isLt⟩]
      exact congrArg Q (funext fun a => Fin.ext (by
        show k1_off1 t a + 1 * 0 = _
        rw [Cnt.off1_eq]; fin_cases a <;> rfl))
    have hchk : k1_chk1 v17 (tc_loops.sl.r (F := F) arg2 h2 Q t) := chk1_of _ _ (by rw [hr]; exact hQ t.val)
    have h2i : k1_cond2 (tc_loops.sl.r (F := F) arg2 h2 Q t) = 1#1 ↔ far Q t.val := by rw [hr]; exact cond2_iff _ (hQ t.val)
    rcases Classical.em (k1_cond2 (tc_loops.sl.r (F := F) arg2 h2 Q t) = 1#1) with h2c | h2c
    · have hf := h2i.1 h2c
      sl_exec
      ihave Hw2 := (pointsTo_share (PosShare.mem_left_op_right (Transfers.shareDrop q (cnt Q t.val)))).1 $$ Hw
      icases Hw2 with ⟨Hw, Ht⟩
      ihave Ht2 := (pointsTo_split_subset (Finset.subset_univ (tabS d (pv Q t.val).toNat))).1 $$ Ht
      icases Ht2 with ⟨Ht, Htc⟩
      ihave H52 := (pointsTo_split_subset (row_sub Q arg5 t.val)).1 $$ H5
      icases H52 with ⟨H5r, H5⟩
      rw [remS_far Q arg5 t.val hf]
      have e2 : k1_off2 t = ![t.val, 0] := off2_eq t
      have e3 : k1_off3 (tc_loops.sl.r (F := F) arg2 h2 Q t) = ![(pv Q t.val).toNat, 0] := by rw [hr]; rfl
      iapply (issue_wp d arg5 h5 Q W8 w q t.val hf hQ _ _ e2 _ _ e3) $$ [Ht H5r HB]
      · isplitl [Ht]; · iexact Ht
        isplitl [H5r]; · iexact H5r
        iexact HB
      iintro HB
      sl_step
      rw [cnt_succ_far Q t.val hf, Finset.range_add_one, SparseCore.bigSep_insert' Finset.notMem_range_self, sel_cnt Q t.val hf]
      isplitl [H2]; · iexact H2
      isplitl [Hw]; · iexact Hw
      isplitl [Hc Htc]
      · isplitl [Htc]; · iexact Htc
        iexact Hc
      isplitl [H5]; · iexact H5
      iexact HB
    · have hf : ¬ far Q t.val := fun hf => h2c (h2i.2 hf)
      sl_exec
      sl_step
      rw [cnt_succ_near Q t.val hf, ← remS_near Q arg5 t.val hf]
      isplitl [H2]; · iexact H2
      isplitl [Hw]; · iexact Hw
      isplitl [Hc]; · iexact Hc
      isplitl [H5]; · iexact H5
      iexact HB
  · unfold issueInv
    rw [show cnt Q 0 = 0 from Nat.le_zero.1 (cnt_le Q 0), Finset.range_zero, bigSep_empty, remS_zero]
    isplitl [H2]; · iexact H2
    isplitl [Hw]; · iexact Hw
    isplitr; · iempintro
    isplitl [H5]; · iexact H5
    iexact HB
  iintro %_ HI
  unfold issueInv
  rw [show Scf.trips k1_t1_loop.lb k1_t1_loop.ub k1_t1_loop.st = 2048 from Cnt.t1_trips]
  icases HI with ⟨H2, Hw, Hc, H5, HB⟩
  unfold tc_loops.sl.prog.cont_1
  have hNN : 0 < NN arg5 := View.dmaCredit_pos _ (by decide)
  have hins : ∀ W' : Waits sig (HIx 1), (∀ p ∈ W', p ∈ Wt ∨ p.2 = none) →
      ∀ p ∈ insert (SemLoc.dma cc1_scratch0.sem, none) W', p ∈ Wt ∨ p.2 = none := fun W' hW p hp => by
    rcases Finset.mem_insert.1 hp with rfl | hp
    · exact Or.inr rfl
    · exact hW p hp
  sl_for (drainInv d arg5 h5 Q W8 w q Wt) $$ [HB HO]
  case region =>
    intro k _
    have hk2 : k.val < cnt Q 2048 := hw2 ▸ k.isLt
    unfold drainInv
    simp only [if_pos hk2]
    rcases Nat.lt_or_ge (k.val + 1) (cnt Q 2048) with h1' | h1'
    · simp only [if_pos h1']
      iintro ⟨-, ⟨%W', %hW, HO⟩, HB⟩
      sl_exec
      iapply (Transfers.wp_waitBatch (countersEmb (U := UU)) 𝒱₀ (T d) none none (N := NN arg5) rfl
        (show k.val * NN arg5 + NN arg5 < NN arg5 * cnt Q 2048 by rw [← Nat.succ_mul, Nat.mul_comm (NN arg5)]; exact Nat.mul_lt_mul_of_pos_right h1' hNN)) $$ [HB HO]
      · isplitl [HB]; · iexact HB
        iexact HO
      iintro ⟨HB, HO⟩
      sl_exec
      sl_step
      isplitr; · ipureintro; exact hk2
      isplitl [HO]
      · iexists _
        isplitr; · ipureintro; exact hins W' hW
        iexact HO
      rw [Nat.succ_mul]
      iexact HB
    · simp only [if_neg (Nat.not_lt.mpr h1')]
      iintro ⟨-, ⟨%W', %hW, HO⟩, HB⟩
      sl_exec
      iapply (Transfers.wp_waitBatchLast (countersEmb (U := UU)) 𝒱₀ (T d) none none (N := NN arg5) rfl hNN
        (show k.val * NN arg5 + NN arg5 = NN arg5 * cnt Q 2048 by rw [← Nat.succ_mul, Nat.mul_comm (NN arg5)]; exact congrArg (· * NN arg5) (by omega))) $$ [HB HO]
      · isplitl [HB]; · iexact HB
        iexact HO
      iintro ⟨HD, Hs, HO⟩
      sl_exec
      sl_step
      isplitr; · ipureintro; exact hk2
      isplitl [HO]
      · iexists _
        isplitr; · ipureintro; exact hins W' hW
        iexact HO
      isplitl [Hs]; · iexact Hs
      iexact HD
  · unfold drainInv
    simp only [if_pos hpos]
    isplitr; · ipureintro; exact Nat.zero_le _
    isplitl [HO]
    · iexists Wt
      isplitr; · ipureintro; exact fun p hp => Or.inl hp
      iexact HO
    rw [Nat.zero_mul]
    iexact HB
  iintro %_ HI
  unfold drainInv
  rw [show Scf.trips (k1_t2_loop v17).lb (k1_t2_loop v17).ub (k1_t2_loop v17).st = cnt Q 2048 from hw2]
  simp only [if_neg (Nat.lt_irrefl _)]
  icases HI with ⟨-, HO, Hs, HD⟩
  unfold tc_loops.sl.prog.cont_2
  sl_for0 hw3
  unfold deliv
  ihave HD2 := (Entails.of_eq (bigSep_sep' _ _ _)) $$ HD
  icases HD2 with ⟨HD5, HDw⟩
  ihave H5 := (join_rows d arg5 h5 Q W8 w) $$ [H5 HD5]
  · isplitl [H5]; · iexact H5
    iexact HD5
  ihave Hw := (join_w d Q w q hQ) $$ [Hw Hc HDw]
  · isplitl [Hw]; · iexact Hw
    isplitl [Hc]; · iexact Hc
    iexact HDw
  sl_exec
  sl_step
  isplitl [H1]; · iexact H1
  isplitl [H2]; · iexact H2
  isplitl [H3]; · iexact H3
  isplitl [H5]; · iexact H5
  isplitl [Hw]; · iexact Hw
  isplitl [Hs]; · iexact Hs
  iexact HO

set_option maxHeartbeats 400000 in
theorem tc_body (i : grid1.Coords) (hQ : Small Q) (f5 : arg5.view.ty.Contents (Elt F)) (Wt : Waits sig (HIx 1)) :
    (iprop((arg1.view.loc (T d) ↦[arg1.view.set]{fullShare} h1.unread (Q : S1x1x2048.Idx → Elt F .i32))
        ∗ (arg2.view.loc (T d) ↦[arg2.view.set]{fullShare} h2.unread (Q : S1x1x2048.Idx → Elt F .i32))
        ∗ (arg3.view.loc (T d) ↦[arg3.view.set]{fullShare} h3.unread W8)
        ∗ (arg5.view.loc (T d) ↦[arg5.view.set]{fullShare} f5)
        ∗ (wLoc d ↦{q} w) ∗ semVal (T d, SemLoc.dma cc1_scratch0.sem) 0 ∗ owes (T d) 0 Wt) : sProp 𝕄)
      ⊢ wp frame (wpE (defs₀ (F := F)) 𝒱₀ (T d) none) Set.univ
          (cc1__tc_body i arg1 h1 arg2 h2 arg3 h3 (Memref.whole main_arg1) (Memref.isWhole_whole _) arg5 h5 cc1_scratch0)
          fun _ => iprop((arg1.view.loc (T d) ↦[arg1.view.set]{fullShare} h1.unread (Q : S1x1x2048.Idx → Elt F .i32))
            ∗ (arg2.view.loc (T d) ↦[arg2.view.set]{fullShare} h2.unread (Q : S1x1x2048.Idx → Elt F .i32))
            ∗ (arg3.view.loc (T d) ↦[arg3.view.set]{fullShare} h3.unread W8)
            ∗ (arg5.view.loc (T d) ↦[arg5.view.set]{fullShare} h5.unread (fin Q W8 w))
            ∗ (wLoc d ↦{q} w) ∗ semVal (T d, SemLoc.dma cc1_scratch0.sem) 0
            ∗ ∃ W', ⌜∀ p ∈ W', p ∈ Wt ∨ p.2 = none⌝ ∗ owes (T d) 0 W') := by
  iintro ⟨H1, H2, H3, H5, Hw, Hs, HO⟩
  rw [cc1__tc_body_eq_skeleton]; unfold cc1__tc_body_skel
  sl_exec
  ihave H5 := (Entails.of_eq (congrArg (fun f => (arg5.view.loc (T d) ↦[arg5.view.set]{fullShare} f : sProp 𝕄)) (stored arg1 h1 arg3 h3 arg5 h5 Q W8 f5))) $$ H5
  have h17 : tc_body.sl.v17 (F := F) arg1 h1 Q = BitVec.ofNat 32 (cnt Q 2048) := by
    unfold tc_body.sl.v17
    exact v17_read (F := F) _ Q hQ (readAt_whole3 arg1 h1 _)
  rcases Classical.em (k1_cond1 (tc_body.sl.v17 (F := F) arg1 h1 Q) = 1#1) with hc | hc
  · sl_exec
    iapply (tc_loops d arg1 h1 arg2 h2 arg3 h3 arg5 h5 Q W8 w q i hQ _ h17 hc _ Wt) $$ [H1 H2 H3 H5 Hw Hs HO]
    isplitl [H1]; · iexact H1
    isplitl [H2]; · iexact H2
    isplitl [H3]; · iexact H3
    isplitl [H5]; · iexact H5
    isplitl [Hw]; · iexact Hw
    isplitl [Hs]; · iexact Hs
    iexact HO
  · have hz : cnt Q 2048 = 0 := Nat.eq_zero_of_not_pos fun hp => hc ((words_at _ _ (cnt_le Q 2048) h17).1.2 hp)
    sl_exec
    sl_step
    rw [show (fin Q W8 w : S2048x2048.Idx → Elt F .f32) = k1_pay2 (F := F) Q W8 from funext fun y => fin_near (F := F) Q W8 w y fun hf =>
      absurd (cnt_lt Q (y 0).isLt hf) (fun hh => absurd (hz ▸ hh : cnt Q (y 0).val < 0) (Nat.not_lt_zero _))]
    isplitl [H1]; · iexact H1
    isplitl [H2]; · iexact H2
    isplitl [H3]; · iexact H3
    isplitl [H5]; · iexact H5
    isplitl [Hw]; · iexact Hw
    isplitl [Hs]; · iexact Hs
    iexists Wt
    isplitr; · ipureintro; exact fun p hp => Or.inl hp
    iexact HO

end Body

end Cert.Proof.TcBody

end
-- ==== Proof.Region.lean ====
/- The dense call as a region of the program: what its windows hold at each grid point, its body at each point, and the
step over the call from the arrays it reads to the rows it leaves. -/
module

public import proofs.«01_k».proof.Proof.TcBody
public import Idealize.ShloMosaic.Lib.Pipeline.FrameBody
public import Idealize.ShloMosaic.Lib.Pipeline.ValueKit

@[expose] public section

set_option maxRecDepth 16384

noncomputable section

namespace Cert.Proof.Region

open Cert.KernelIdeal Cert.KernelIdeal.Gen Cert.Proof.Setup Cert.Proof.Cnt Cert.Proof.TcGeo Cert.Proof.TcBody

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}

local notation "𝕄" => MT nD τ sig (HIx 1) (Elt F) ℕ UU ℕ

variable [FloatOps F]

variable (Pq : (c : Dev nD) → Buf (Elt F) (qLoc c)) (Wv : (c : Dev nD) → Buf (Elt F) (wLoc c)) (Ov : (c : Dev nD) → Buf (Elt F) (oLoc c))

/-- Point `t`'s block of positions. -/
def blkQ (c : Dev nD) (t : Fin cfg1.N) : Blk := ((cfg1.win 0).blk t).view.read (Elt F) (Pq c)

/-- The table's first sixteen rows. -/
def top (c : Dev nD) : S16x2048.Idx → Elt F .f32 := ((cfg1.win 2).blk t1_0).view.read (Elt F) (Wv c)

theorem blkQ_small (hP : ∀ c i, ((Pq c i : Elt F .i32) : BitVec 32).toNat < 8192) (c : Dev nD) (t : Fin cfg1.N) : Small (blkQ Pq c t) := fun s => by
  unfold pv blkQ
  split
  · rw [View.read_apply]
    exact hP c _
  · decide

/-- The waits a thread may have recorded by now. -/
def okWaits (c : Dev nD) : Set (SemLoc sig × HIx 1) := {p | (K (F := F)).lev (T c, p.1) p.2 ≤ 8 * 1}

/-- What the body holds besides its windows: half of the table, and its semaphore at zero. -/
def inv (c : Dev nD) : sProp 𝕄 := iprop((wLoc c ↦{fullShare.right} Wv c) ∗ semVal (T c, SemLoc.dma cc1_scratch0.sem) 0)

def dat (c : Dev nD) : Dat τ (Elt F) (HIx 1) ℕ UU ℕ cfg1 c where
  A w := match w with
    | 0 => Pq c
    | 1 => Pq c
    | 2 => Wv c
    | 3 => Ov c
  after w t := match w with
    | 0 => blkQ Pq c t
    | 1 => blkQ Pq c t
    | 2 => top Wv c
    | 3 => fin (blkQ Pq c t) (top Wv c) (Wv c)
  Φ _ := inv Wv c
  q w := match w with
    | 0 => fullShare.left
    | 1 => fullShare.right
    | 2 => fullShare.left
    | 3 => fullShare
  owed _ := 0
  recorded _ := okWaits (F := F) c

abbrev adm : (p : Fin 1) → (pcfgs (F := F) p).Adm := fun q => (cfgs q).toPCfg_adm

def pdats (p : Fin 1) (c : Dev nD) : Dat τ (Elt F) (HIx 1) ℕ UU ℕ (Pipeline.pin (pcfgs (F := F)) adm p) c := dat Pq Wv Ov c

theorem before0 (c : Dev nD) (t : Fin cfg1.N) (e) : (dat Pq Wv Ov c).before 0 t e = blkQ Pq c t := by
  unfold Dat.before; rw [if_pos (fetch1_0 t)]; rfl
theorem before1 (c : Dev nD) (t : Fin cfg1.N) (e) : (dat Pq Wv Ov c).before 1 t e = blkQ Pq c t := by
  unfold Dat.before; rw [if_pos (fetch1_1 t)]; rfl
theorem before2 (c : Dev nD) (t : Fin cfg1.N) (e) : (dat Pq Wv Ov c).before 2 t e = top Wv c :=
  ((dat Pq Wv Ov c).before_in_eq_fetched 2 rfl (fun _ => rfl) (fun _ _ _ => rfl) (fun _ => rfl) t e).trans rfl

theorem body_obligation (hP : ∀ c i, ((Pq c i : Elt F .i32) : BitVec 32).toNat < 8192) (c : Dev nD) :
    BodyObligation (dat Pq Wv Ov c) (defs₀ (F := F)) 𝒱₀ (none : HIx 1) Set.univ := fun t => by
  rw [bigSep_W1, bigSep_W1]
  simp only [before0, before1, before2]
  rw [show (dat Pq Wv Ov c).Φ t.castSucc = inv Wv c from rfl, show (dat Pq Wv Ov c).Φ t.succ = inv Wv c from rfl,
    show (dat Pq Wv Ov c).owesAt (none : HIx 1) t.succ = (dat Pq Wv Ov c).owesAt none t.castSucc from rfl]
  unfold inv owns
  iintro ⟨⟨Hw, Hs⟩, HO, ⟨%d0, %f0, %hf0, H0⟩, ⟨%d1, %f1, %hf1, H1⟩, ⟨%d2, %f2, %hf2, H2⟩, ⟨%d3, %f3, -, H3⟩⟩
  unfold Dat.owesAt Pipeline.owesWithin
  icases HO with ⟨%Wt, %hWt, HO⟩
  rw [(stage_whole1 0 (cfg1.slots t 0)).eq_unread hf0, (stage_whole1 1 (cfg1.slots t 1)).eq_unread hf1,
    (stage_whole1 2 (cfg1.slots t 2)).eq_unread hf2]
  have key := tc_body (F := F) c (st1_0 t) (stage_whole1 0 (cfg1.slots t 0)) (st1_1 t) (stage_whole1 1 (cfg1.slots t 1))
    (st1_2 t) (stage_whole1 2 (cfg1.slots t 2)) (st1_3 t) (stage_whole1 3 (cfg1.slots t 3)) (blkQ Pq c t) (top Wv c) (Wv c) fullShare.right
    (grid1.coords t) (blkQ_small Pq hP c t) f3 Wt
  iapply (wp_wand_r Idealize.ShloMosaic.frame (wpE (defs₀ (F := F)) 𝒱₀ (T c) none) Set.univ)
  isplitl [H0 H1 H2 H3 Hw Hs HO]
  · iapply key
    isplitl [H0]; · iexact H0
    isplitl [H1]; · iexact H1
    isplitl [H2]; · iexact H2
    isplitl [H3]; · iexact H3
    isplitl [Hw]; · iexact Hw
    isplitl [Hs]; · iexact Hs
    iexact HO
  iintro %_ ⟨H0, H1, H2, H3, Hw, Hs, %W', %hW', HO⟩
  isplitl [Hw Hs]
  · isplitl [Hw]; · iexact Hw
    iexact Hs
  isplitl [HO]
  · iexists W'
    isplitr
    · ipureintro
      intro p hp
      rcases hW' p hp with h | h
      · exact hWt h
      · refine Or.inl ?_
        show (K (F := F)).lev (T c, p.1) p.2 ≤ 8 * 1
        rw [h, SparseCore.Cfg.lev_none]; exact Nat.zero_le _
    iexact HO
  isplitl [H0]; · iexists _; isplitr; swap; (· iexact H0); ipureintro; exact (stage_whole1 0 (cfg1.slots t 0)).read_unread _
  isplitl [H1]; · iexists _; isplitr; swap; (· iexact H1); ipureintro; exact (stage_whole1 1 (cfg1.slots t 1)).read_unread _
  isplitl [H2]; · iexists _; isplitr; swap; (· iexact H2); ipureintro; exact (stage_whole1 2 (cfg1.slots t 2)).read_unread _
  iexists _; isplitr; swap; (· iexact H3); ipureintro; exact (stage_whole1 3 (cfg1.slots t 3)).read_unread _

/-! ### The arrays, listed -/

theorem arrays_eq (c : Dev nD) (G : (w : Fin cfg1.W) → Buf (Elt F) ((cfg1.win w).arr.view.loc (c.tc : Thread nD τ))) :
    ((dat Pq Wv Ov c).arrays G : sProp 𝕄)
      = iprop((qLoc c ↦{fullShare.left} (G 0 : Buf (Elt F) (qLoc c))) ∗ (qLoc c ↦{fullShare.right} (G 1 : Buf (Elt F) (qLoc c)))
          ∗ (wLoc c ↦{fullShare.left} (G 2 : Buf (Elt F) (wLoc c))) ∗ oLoc c ↦{fullShare} (G 3 : Buf (Elt F) (oLoc c))) := by
  unfold Dat.arrays
  rw [bigSep_W1]
  simp only [(arr_whole1 0).set_eq_univ, (arr_whole1 1).set_eq_univ, (arr_whole1 2).set_eq_univ, (arr_whole1 3).set_eq_univ]
  rfl

/-- What the call leaves in its result. -/
def outv (c : Dev nD) : Buf (Elt F) (oLoc c) := (dat Pq Wv Ov c).arrAt 3 cfg1.N

/-- The state the region is entered from: its three arrays, and the thread's recorded waits. -/
def pre (c : Dev nD) : sProp 𝕄 :=
  iprop((qLoc c ↦{fullShare} Pq c) ∗ (wLoc c ↦{fullShare} Wv c) ∗ (oLoc c ↦{fullShare} Ov c)
    ∗ ∃ W, ⌜(K (F := F)).WBelow (T c) W (8 * 1)⌝ ∗ owes (T c) (0 : CellTallies nD τ sig (HIx 1)) W)

def post (c : Dev nD) : sProp 𝕄 :=
  iprop((qLoc c ↦{fullShare} Pq c) ∗ (wLoc c ↦{fullShare} Wv c) ∗ (oLoc c ↦{fullShare} outv Pq Wv Ov c)
    ∗ ∃ W, ⌜(K (F := F)).WBelow (T c) W (8 * 1)⌝ ∗ owes (T c) (0 : CellTallies nD τ sig (HIx 1)) W)

theorem ownSem_eq (c : Dev nD) :
    (Pipeline.ownSems0 (Ix := HIx 1) (Name := ℕ) (U := UU) (Lvl := ℕ) (Val := Elt F) (τ := τ) (fun _ : Unit => SemLoc.dma cc1_scratch0.sem) c : sProp 𝕄)
      = semVal (T c, SemLoc.dma cc1_scratch0.sem) 0 := by
  rw [Pipeline.ownSems0_eq_of_list c _ [()] (by decide) (by decide)]
  rfl

theorem ownFacts : Pipeline.OwnSemFacts spec1 (fun _ : Unit => SemLoc.dma cc1_scratch0.sem) := by decide

set_option backward.isDefEq.respectTransparency.types false in
def reg (hP : ∀ c i, ((Pq c i : Elt F .i32) : BitVec 32).toNat < 8192) :
    Pipeline.RegionSeg (pcfgs (F := F)) adm (pdats Pq Wv Ov) (none : HIx 1) defs₀ 𝒱₀ (K (F := F)).L (K (F := F)).lev 0 where
  win := winFacts₀1
  block_pos := block_pos1
  stage_whole := stage_whole1
  K := Unit
  osem _ := .dma cc1_scratch0.sem
  ho := ownFacts
  hbody c := (body_obligation Pq Wv Ov hP c).loose
  hwaits := Pipeline.hwaits_of_owed_zero _ _ _ _ (K (F := F)).L (K (F := F)).lev 0 fun _ _ => rfl
  pre := pre Pq Wv Ov
  post := post Pq Wv Ov
  X c := inv Wv c
  Y c := iprop(wLoc c ↦{fullShare.right} Wv c)
  Z c := BI.emp
  hentry c := by
    rw [ownSem_eq]
    rw [show (pdats Pq Wv Ov 0 c) = dat Pq Wv Ov c from rfl, arrays_eq]
    unfold pre inv
    iintro ⟨⟨Hq, Hw, Ho, ⟨%W, %hW, HO⟩⟩, Hs, -⟩
    ihave Hq := (pointsTo_share (PosShare.mem_left_op_right fullShare)).mp $$ Hq
    icases Hq with ⟨Hq1, Hq2⟩
    ihave Hw := (pointsTo_share (PosShare.mem_left_op_right fullShare)).mp $$ Hw
    icases Hw with ⟨Hw1, Hw2⟩
    imodintro
    isplitl [Hq1 Hq2 Hw1 Ho]
    · isplitl [Hq1]; · iexact Hq1
      isplitl [Hq2]; · iexact Hq2
      isplitl [Hw1]; · iexact Hw1
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl
    · isplitl [Hw2]; · iexact Hw2
      iexact Hs
    iempintro
  hin c := by
    rw [show (pdats Pq Wv Ov 0 c).Φ 0 = inv Wv c from rfl]
    iintro ⟨Hx, -, -⟩; iexact Hx
  hout c := by
    rw [ownSem_eq, show (pdats Pq Wv Ov 0 c).Φ (Fin.last _) = inv Wv c from rfl,
      show (Pipeline.scopedRest (Pipeline.pin (pcfgs (F := F)) adm 0).spec c : sProp 𝕄) = Pipeline.scopedRest spec1 c from rfl, scopedRest1_eq]
    unfold inv
    iintro ⟨Hw, Hs⟩
    isplitl [Hw]; · iexact Hw
    isplitl [Hs]; · iexact Hs
    iempintro
  hexit c := by
    rw [show (pdats Pq Wv Ov 0 c) = dat Pq Wv Ov c from rfl, arrays_eq]
    unfold post
    iintro ⟨⟨Hq1, Hq2, Hw1, Ho⟩, HO, Hw2, -⟩
    ihave Hq1 := (Entails.of_eq (congrArg (fun f => (qLoc c ↦{fullShare.left} f : sProp 𝕄)) ((dat Pq Wv Ov c).arrAt_in 0 rfl cfg1.N))) $$ Hq1
    ihave Hq2 := (Entails.of_eq (congrArg (fun f => (qLoc c ↦{fullShare.right} f : sProp 𝕄)) ((dat Pq Wv Ov c).arrAt_in 1 rfl cfg1.N))) $$ Hq2
    ihave Hw1 := (Entails.of_eq (congrArg (fun f => (wLoc c ↦{fullShare.left} f : sProp 𝕄)) ((dat Pq Wv Ov c).arrAt_in 2 rfl cfg1.N))) $$ Hw1
    ihave Hq := (pointsTo_share (f := Pq c) (PosShare.mem_left_op_right fullShare)).mpr $$ [Hq1 Hq2]
    · isplitl [Hq1]; · iexact Hq1
      iexact Hq2
    ihave Hw := (pointsTo_share (f := Wv c) (PosShare.mem_left_op_right fullShare)).mpr $$ [Hw1 Hw2]
    · isplitl [Hw1]; · iexact Hw1
      iexact Hw2
    imodintro
    isplitl [Hq]; · iexact Hq
    isplitl [Hw]; · iexact Hw
    isplitl [Ho]; · iexact Ho
    unfold Pipeline.Dat.owesAt Pipeline.owesWithin
    icases HO with ⟨%W, %hW, HO⟩; iexists W; isplitr
    · ipureintro
      intro p hp
      rcases hW hp with h | h
      · exact h
      · obtain ⟨w, s, rfl⟩ := h
        rw [SparseCore.Cfg.lev_none]; exact Nat.zero_le _
    iexact HO

end Cert.Proof.Region

end
-- ==== Proof.Tile.lean ====
/- The vector call's task: what one tile does, with the values it leaves. -/
module

public import proofs.«01_k».proof.Proof.Setup
public import Idealize.ShloMosaic.Lib.ValueLayout

@[expose] public section

set_option maxRecDepth 16384

noncomputable section

namespace Cert.Proof.Tile

open Cert.KernelIdeal Cert.KernelIdeal.Gen Cert.Proof.Pos Cert.Proof.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as closed constants: the ids, the positions, the two scratches
local notation "xV" => (Memref.whole Cert.KernelIdeal.main_arg0_scv : Memref Cert.KernelIdeal.sig Kind.scVector Space.hbm Cert.KernelIdeal.S4x4096 EltTy.i32)
local notation "oV" => (Memref.whole Cert.KernelIdeal.main_v0_scv : Memref Cert.KernelIdeal.sig Kind.scVector Space.hbm Cert.KernelIdeal.S32x32x16 EltTy.i32)
local notation "sI" => (Memref.whole Cert.KernelIdeal.cc0_scratch0 : Memref Cert.KernelIdeal.sig Kind.scVector Space.vmem Cert.KernelIdeal.S4096 EltTy.i32)
local notation "sC" => (Memref.whole Cert.KernelIdeal.cc0_scratch1 : Memref Cert.KernelIdeal.sig Kind.scVector Space.vmem Cert.KernelIdeal.S32x16 EltTy.i32)

variable (m : (ℓ : Loc nD τ sig) → Buf (Elt F) ℓ)

variable [FloatOps F]

section Body

variable (d : Dev nD) (L : grid0.Coords)

abbrev cV (L : grid0.Coords) : Fin τ.nSC := (L 0).castLE hcore0
abbrev jV (L : grid0.Coords) : Fin τ.nSub := (L 1).castLE hsub0

/-- The row of the ids the task fetches and the block of the positions it writes, as the body spells them. -/
abbrev xRect (L : grid0.Coords) : Rect S4x4096 := Rect.unit (s := S4x4096) (k0_off1 L) S1x4096.size (k0_off1_inb L)
abbrev xRowK (L : grid0.Coords) : Memref sig .scVector .hbm S4096 .i32 := ((xV).slice (xRect L) (fun _ => rfl)).squeeze S4096 squeezes_S1x4096_S4096
abbrev oRect (L : grid0.Coords) : Rect S32x32x16 := Rect.unit (s := S32x32x16) (k0_off6 L) S1x32x16.size (k0_off6_inb L)
abbrev oRowK (L : grid0.Coords) : Memref sig .scVector .hbm S32x16 .i32 := ((oV).slice (oRect L) (fun _ => rfl)).squeeze S32x16 squeezes_S1x32x16_S32x16

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sC (f : Buf (Elt F) ((V d (cV L) (jV L)).loc cc0_scratch1)) :
    ((sC).view.loc (V d (cV L) (jV L)) ↦{fullShare} f : sProp 𝕄) = (V d (cV L) (jV L)).loc cc0_scratch1 ↦{fullShare} f := rfl
omit [FloatOps F] in
theorem pts_x (q : PosShare TreeShare) (f : Buf (Elt F) (xLoc d)) :
    ((xV).view.loc (V d (cV L) (jV L)) ↦{q} f : sProp 𝕄) = xLoc d ↦{q} f := rfl
omit [FloatOps F] in
theorem pts_o (f : Buf (Elt F) (pLoc d)) :
    ((oRowK L).view.loc (V d (cV L) (jV L)) ↦[(oRowK L).view.set]{fullShare} f : sProp 𝕄) = pLoc d ↦[(oRowK L).view.set]{fullShare} f := rfl

/-! ## The values -/

/-- Where the task's segment starts in its row, as the body computes it. -/
def startW (i : grid0.Coords) : BitVec 32 :=
  let arg0 : BitVec 32 := BitVec.ofNat 32 (i 0).val
  let arg1 : BitVec 32 := BitVec.ofNat 32 (i 1).val
  let v1 : BitVec 32 := Scalar.addi (Scalar.muli arg1 2#32) arg0
  let v20 : BitVec 32 := Scalar.select (Scalar.cmpi .eq 8#32 0#32) 1#32 8#32
  let v21 : BitVec 32 := Scalar.remsi v1 v20
  let v25 : BitVec 1 := Scalar.xori (Scalar.cmpi .slt v21 0#32) (Scalar.cmpi .slt v20 0#32)
  let v26 : BitVec 1 := Scalar.andi v25 (Scalar.cmpi .ne v21 0#32)
  Scalar.muli (Scalar.select v26 (Scalar.addi v21 v20) v21) 512#32

theorem startW_eq : ∀ i : grid0.Coords, startW i = BitVec.ofNat 32 (base i) := by decide +kernel

/-- The task's row of the ids in its first scratch. -/
def rowBuf (x : S4x4096.Idx → BitVec 32) (L : grid0.Coords) : S4096.Idx → BitVec 32 := fun j => rowOf x (wid L / 8) (j 0).val

omit [FloatOps F] in
theorem fetch_eq (x : Buf (Elt F) (xLoc d)) (fs : Buf (Elt F) ((V d (cV L) (jV L)).loc cc0_scratch0)) :
    View.write (Elt F) (sI).view fs ((xRowK L).view.read (Elt F) x) Finset.univ = (rowBuf x L : S4096.Idx → Elt F .i32) := by
  refine (View.write_whole_univ (Val := Elt F) cc0_scratch0 fs _).trans (funext fun j => ?_)
  have hw := wid_lt L
  have hj : (j 0).val < 4096 := (j 0).isLt
  show x ((xRect L).emb (Shape.reshapeEquiv _ j)) = rowOf x (wid L / 8) (j 0).val
  have hb : wid L / 8 < 4 := by omega
  rw [rowOf, dif_pos ⟨hb, hj⟩]
  refine congrArg x ((Rect.emb_eq_of_coords (xRect L) _ _ fun a => ?_))
  rw [show ∀ h, Shape.reshapeEquiv (s := S1x4096) (s' := S4096) h j = Fin.cons ⟨0, Nat.one_pos⟩ j from
    fun h => Shape.reshapeEquiv_cons_one (d := ![4096]) h j]
  show _ = k0_off1 L a + 1 * _
  rw [off1_eq]
  fin_cases a
  · show wid L / 8 = wid L / 8 + 1 * 0; omega
  · show (j 0).val = 0 + 1 * (j 0).val; omega

omit [FloatOps F] in
theorem load1 (x : S4x4096.Idx → BitVec 32) (t : Fin (k0_t1_loop L).trips) (l : Fin 16) :
    View.readAt (Elt F) (sI).view (Rect.unit (s := S4096) (k0_off2 L t) S16.size (k0_off2_inb L t)).toLoadRect (rowBuf x L : S4096.Idx → Elt F .i32) (ln l)
      = rowOf x (wid L / 8) (16 * t.val + l.val) := by
  show rowOf x (wid L / 8) (k0_off2 L t 0 + 1 * l.val) = _
  rw [off2_eq]; show rowOf x (wid L / 8) (16 * t.val + 1 * l.val) = _; rw [Nat.one_mul]

omit [FloatOps F] in
theorem load3 (x : S4x4096.Idx → BitVec 32) (t : Fin k0_t3_loop.trips) (l : Fin 16) :
    View.readAt (Elt F) (sI).view (Rect.unit (s := S4096) (k0_off4 L t) S16.size (k0_off4_inb L t)).toLoadRect (rowBuf x L : S4096.Idx → Elt F .i32) (ln l)
      = rowOf x (wid L / 8) (base L + 16 * t.val + l.val) := by
  show rowOf x (wid L / 8) (k0_off4 L t 0 + 1 * l.val) = _
  rw [off4_eq]; show rowOf x (wid L / 8) (base L + 16 * t.val + 1 * l.val) = _; rw [Nat.one_mul]

/-- The chunks before `k` of the second scratch hold their positions. -/
def Chunks (x : S4x4096.Idx → BitVec 32) (L : grid0.Coords) (k : ℕ) (f : S32x16.Idx → BitVec 32) : Prop :=
  ∀ j : S32x16.Idx, (j 0).val < k → f j = BitVec.ofNat 32 (posOf (rowOf x (wid L / 8)) (base L + 16 * (j 0).val + (j 1).val))

theorem store_chunks (x : S4x4096.Idx → BitVec 32) (t : Fin k0_t3_loop.trips) (f : S32x16.Idx → Elt F .i32) (w : BitVec 32)
    (v : Vec F S16 .i32) (hv : ∀ l : Fin 16, v (ln l) = rowOf x (wid L / 8) (base L + 16 * t.val + l.val))
    (hc : w.toInt = lastNd (rowOf x (wid L / 8)) (base L + 16 * t.val)) (hf : Chunks x L t.val f) :
    Chunks x L (t.val + 1) ((sC).view.writes (Elt F) f
      [⟨Rect.unit (s := S32x16) (k0_off5 t) S1x16.size (k0_off5_inb t),
        shapeCast S1x16 (k0_pay8 (F := F) (BitVec.ofNat 32 (base L)) t w v) shapeCasts_S16_S1x16⟩]) := by
  have hw := wid_lt L
  have ht : t.val < 32 := lt_of_lt_of_eq t.isLt t3_trips
  have h5 : ∀ a, k0_off5 t a = (![t.val, 0] : Fin 2 → ℕ) a := fun a => congrFun (k0_off5_eq t) a
  intro j hj
  by_cases h : (j 0).val = t.val
  · refine (View.read_writes_cons_hit_of_coords (sC).view f _ _ [] (ValueIdx.ix2 (⟨0, Nat.one_pos⟩ : Fin 1) (⟨(j 1).val, (j 1).isLt⟩ : Fin 16)) j fun a => ?_).trans ?_
    · show _ = k0_off5 t a + 1 * _
      rw [h5]
      fin_cases a
      · show (j 0).val = t.val + 1 * 0; omega
      · show (j 1).val = 0 + 1 * (j 1).val; omega
    · refine (ValueIdx.shapeCast_a_1a_apply (a := 16) _ _ _ _).trans ?_
      refine (congrArg _ (eq_ln _)).trans ((pay8_ln (F := F) _ (base L) t v w (by unfold base; omega) hv hc ⟨(j 1).val, (j 1).isLt⟩).trans ?_)
      rw [h]
  · refine (View.read_writes_cons_miss_of_axis (sC).view f _ [] j 0 t.val 1 ?_ rfl rfl (by omega)).trans (hf j (by omega))
    show k0_off5 t 0 = _
    rw [h5]; rfl

omit [FloatOps F] in
theorem out_eq (x : S4x4096.Idx → BitVec 32) (o : Buf (Elt F) (pLoc d)) (f : S32x16.Idx → Elt F .i32) (hf : Chunks x L 32 f) :
    ∀ i ∈ (oRowK L).view.set, (oRowK L).view.writes (Elt F) o [⟨Rect.whole S32x16, f⟩] i = (posArr x : S32x32x16.Idx → Elt F .i32) i := by
  intro i hi
  obtain ⟨y, -, rfl⟩ := Finset.mem_map.mp hi
  have hw := wid_lt L
  have h := View.read_writes_cons_emb (oRowK L).view o (Rect.whole S32x16) f [] y
  rw [Rect.emb_whole_apply] at h
  refine Eq.trans ?_ (h.trans ?_)
  · rfl
  · rw [hf y (y 0).isLt]
    have e : (oRowK L).view.emb y = (oRect L).emb (ValueIdx.ix3 (⟨0, Nat.one_pos⟩ : Fin 1) (y 0) (y 1)) := by
      show (oRect L).emb (Shape.reshapeEquiv (s := S1x32x16) (s' := S32x16) _ y) = _
      congr 1
      exact (congrArg _ (ValueIdx.eq_ix2 y)).trans (ValueIdx.reshapeEquiv_ix2_1ab (a := 32) (b := 16) _ (y 0) (y 1))
    rw [e]
    have h6 : ∀ a, k0_off6 L a = (![wid L, 0, 0] : Fin 3 → ℕ) a := fun a => congrFun (k0_off6_eq L) a
    have e0 : ((oRect L).emb (ValueIdx.ix3 (⟨0, Nat.one_pos⟩ : Fin 1) (y 0) (y 1)) 0).val = wid L := by
      show k0_off6 L 0 + 1 * 0 = _; rw [h6]; rfl
    have e1 : ((oRect L).emb (ValueIdx.ix3 (⟨0, Nat.one_pos⟩ : Fin 1) (y 0) (y 1)) 1).val = (y 0).val := by
      show k0_off6 L 1 + 1 * (y 0).val = _; rw [h6]; show 0 + 1 * (y 0).val = _; omega
    have e2 : ((oRect L).emb (ValueIdx.ix3 (⟨0, Nat.one_pos⟩ : Fin 1) (y 0) (y 1)) 2).val = (y 1).val := by
      show k0_off6 L 2 + 1 * (y 1).val = _; rw [h6]; show 0 + 1 * (y 1).val = _; omega
    unfold posArr
    rw [e0, e1, e2]; rfl

/-! ## The loops' invariants -/

def inv1 (x : S4x4096.Idx → BitVec 32) (k : ℕ) (g : IVec S16 32) : sProp 𝕄 :=
  iprop(⌜AccOK (rowOf x (wid L / 8)) k g⌝ ∗ (sI).view.loc (V d (cV L) (jV L)) ↦{fullShare} (rowBuf x L : S4096.Idx → Elt F .i32))

def inv3 (x : S4x4096.Idx → BitVec 32) (k : ℕ) (w : BitVec 32) : sProp 𝕄 :=
  iprop(⌜w.toInt = lastNd (rowOf x (wid L / 8)) (base L + 16 * k)⌝ ∗ ((sI).view.loc (V d (cV L) (jV L)) ↦{fullShare} (rowBuf x L : S4096.Idx → Elt F .i32))
    ∗ ∃ f : S32x16.Idx → Elt F .i32, ⌜Chunks x L k f⌝ ∗ (sC).view.loc (V d (cV L) (jV L)) ↦{fullShare} f)

theorem t2_trips : ∀ i : grid0.Coords, (k0_t2_loop i).trips = 0 := by decide +kernel

theorem tile_body (hF : (K (F := F)).Facts) (O : CellTallies nD τ sig (HIx 1)) (W : Waits sig (HIx 1)) (hO : ∀ g, O g none = 0)
    (q : PosShare TreeShare) (x : Buf (Elt F) (xLoc d)) (o : Buf (Elt F) (pLoc d)) :
    (iprop(levAts (K (F := F)).L (K (F := F)).lev ∗ emp
        ∗ ((xLoc d ↦{q} x) ∗ (pLoc d ↦[(oRowK L).view.set]{fullShare} o))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__pos_body L xV (Memref.isWhole_whole _) oV (Memref.isWhole_whole _) sI (Memref.isWhole_whole _) sC (Memref.isWhole_whole _)
            cc0_scoped0 cc0_scoped1)
          fun _ => iprop(((xLoc d ↦{q} x) ∗ (pLoc d ↦[(oRowK L).view.set]{fullShare} (posArr x : Buf (Elt F) (pLoc d))))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V (F := F) d L, ownBufs_V (F := F) d L]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L q _).symm) $$ Hx
  ihave Ho' := (Entails.of_eq (pts_o (F := F) d L _).symm) $$ Ho
  ihave Hs' := (Entails.of_eq (pts_sI (F := F) d L _).symm) $$ Hs
  ihave Hc' := (Entails.of_eq (pts_sC (F := F) d L _).symm) $$ Hc
  rw [cc0__pos_body_eq_skeleton]; unfold cc0__pos_body_skel
  rw [k0_part1_eq_skeleton, k0_part2_eq_skeleton]; unfold k0_part1_skel k0_part2_skel
  sl_exec
  rw [show tile_body.sl.dma0 d L x = (xRowK L).view.read (Elt F) x from rfl]
  ihave Hs := (Entails.of_eq (congrArg (fun f => ((sI).view.loc (V d (cV L) (jV L)) ↦{fullShare} f : sProp 𝕄)) (fetch_eq d L x fs))) $$ Hs'
  have hst : tile_body.sl.v29 L = BitVec.ofNat 32 (base L) := startW_eq L
  rw [hst]
  have hw := wid_lt L
  rw [LawfulMonad.bind_assoc]
  sl_for (inv1 (F := F) d L x) $$ [Hs]
  case region =>
    intro k g; unfold inv1
    iintro ⟨%hg, Hs⟩
    have hk : k.val < 32 * (wid L % 8) := by rw [← t1_trips]; exact k.isLt
    sl_exec
    sl_step
    isplitr
    · ipureintro
      exact acc_succ _ L k g _ (by omega) (load1 L x k) hg
    iexact Hs
  · unfold inv1; isplitr; · ipureintro; exact acc_zero _
    iexact Hs
  iintro %g HI
  unfold inv1; icases HI with ⟨%hg, Hs⟩
  replace hg : AccOK (rowOf x (wid L / 8)) (32 * (wid L % 8)) g := by rw [← t1_trips]; exact hg
  have htr : Scf.trips (k0_t2_loop L).lb (k0_t2_loop L).ub (k0_t2_loop L).st = 0 := t2_trips L
  unfold tile_body.sl.prog.cont_1
  rw [LawfulMonad.bind_assoc]
  sl_for0 htr
  unfold tile_body.sl.prog.cont_2
  sl_exec
  rw [LawfulMonad.bind_assoc]
  sl_for (inv3 (F := F) d L x) $$ [Hs Hc']
  case region =>
    intro k w; unfold inv3
    iintro ⟨%hw3, Hs, %f, %hf, Hc'⟩
    have hk : k.val < 32 := lt_of_lt_of_eq k.isLt t3_trips
    sl_exec
    sl_step
    isplitr
    · ipureintro
      exact carry_succ _ (base L) k _ w (by unfold base; omega) (load3 L x k) hw3
    isplitl [Hs]; · iexact Hs
    iexists _
    isplitr; swap; · iexact Hc'
    ipureintro
    exact store_chunks L x k f w _ (load3 L x k) hw3 hf
  · unfold inv3
    isplitr
    · ipureintro
      refine (acc_end _ _ g hg).trans (congrArg (lastNd _) ?_)
      unfold base; omega
    isplitl [Hs]; · iexact Hs
    iexists _
    isplitr; swap; · iexact Hc'
    ipureintro; intro j hj; exact absurd hj (Nat.not_lt_zero _)
  iintro %w HI
  unfold inv3; icases HI with ⟨%hw3, Hs, %f, %hf, Hc'⟩
  replace hf : Chunks x L 32 f := by rw [← t3_trips]; exact hf
  unfold tile_body.sl.prog.cont_3
  sl_exec
  sl_step
  isplitl [Hx' Ho']
  · isplitl [Hx']; · iapply (Entails.of_eq (pts_x (F := F) d L q _)); iexact Hx'
    iapply (Entails.of_eq ((pts_o (F := F) d L _).trans (pointsTo_congr (out_eq d L x o f hf)))); iexact Ho'
  isplitl [Hs Hc' Hbufs]
  · isplitl [Hs]; · iexists _; iexact Hs
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Body

end Cert.Proof.Tile
-- ==== Proof.Call0.lean ====
/- The vector call: what its tasks take and bring back, and the split of its operands over the tasks. -/
module

public import proofs.«01_k».proof.Proof.Tile

@[expose] public section

set_option maxRecDepth 16384

noncomputable section

namespace Cert.Proof.Call0

open Cert.KernelIdeal Cert.KernelIdeal.Gen Cert.Proof.Pos Cert.Proof.Setup Cert.Proof.Tile

open Idealize.ShloMosaic
open Idealize.ShloMosaic.SparseCore (S V T)
open Idealize.ShloMosaic.SparseCore.Cfg (HIx Pay)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The thirty-two tasks -/

def coordsV (c : Fin (grid0.bound 0)) (s : Fin (grid0.bound 1)) : grid0.Coords :=
  fun | 0 => c | 1 => s | ⟨_ + 2, h⟩ => absurd h (Nat.not_lt.2 (Nat.le_add_left _ _))

/-- The number of a task. -/
abbrev wF (L : grid0.Coords) : Fin 32 := ⟨wid L, wid_lt L⟩

/-- The tasks, two cores by sixteen subcores, by their numbers. -/
def tasks : Fin 2 × Fin 16 ≃ Fin 32 where
  toFun p := wF (coordsV p.1 p.2)
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_tasks (Φ : Fin 32 → sProp 𝕄) :
    (bigSep Finset.univ fun c : Fin ((K (F := F)).nCore 0) => bigSep Finset.univ fun i : Fin ((K (F := F)).nSub 0) =>
        Φ (wF (coordsV (Fin.cast nCore_zero c) (Fin.cast nSub_zero i))))
      = bigSep Finset.univ Φ := by
  rw [bigSep_univ_equiv tasks Φ, ← Finset.univ_product_univ, SparseCore.bigSep_product]
  rfl

/-! ## The positions in thirty-two blocks -/

theorem hdiv : 32 ∣ S32x32x16.size 0 := ⟨1, rfl⟩
abbrev blkR (w : Fin 32) : Rect S32x32x16 := Rect.part (s := S32x32x16) (a₀ := 0) hdiv w
/-- Block `w` of the positions. -/
abbrev blkSet (w : Fin 32) : Finset S32x32x16.Idx := (blkR w).set

theorem blk_disjoint : ∀ i ∈ (Finset.univ : Finset (Fin 32)), ∀ j ∈ (Finset.univ : Finset (Fin 32)), i ≠ j → Disjoint (blkSet i) (blkSet j) :=
  fun _ _ _ _ h => Rect.part_disjoint hdiv h
theorem blk_cover : (Finset.univ : Finset (Fin 32)).biUnion blkSet = Finset.univ := Rect.biUnion_part hdiv

theorem blk_eq (L : grid0.Coords) : oRect L = blkR (wF L) := by
  unfold oRect blkR Rect.part Rect.block
  congr 1 <;> funext a
  · rw [k0_off6_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_oRowK (L : grid0.Coords) : (oRowK L).view.set = blkSet (wF L) := by
  have h : (oRowK L).view.set = (oRect L).set := by
    show (((View.whole (main_v0_scv : Ref sig .scVector)).slice (oRect L)).reshape S32x16 squeezes_S1x32x16_S32x16.numel_eq).set = _
    rw [View.set_reshape, View.set_slice]; exact Finset.map_refl
  rw [h, blk_eq]

theorem pPts_blocks (d : Dev nD) (f : Buf (Elt F) (pLoc d)) :
    (pLoc d ↦{fullShare} f : sProp 𝕄) = bigSep Finset.univ fun w : Fin 32 => pLoc d ↦[blkSet w]{fullShare} f := by
  rw [← pointsTo_biUnion Finset.univ (ℓ := pLoc d) blkSet blk_disjoint, blk_cover]; try rfl

/-- The read share of task `w` of the ids. -/
abbrev shr (w : Fin 32) : PosShare TreeShare := leaf 5 fullShare w

theorem xPts_shares (d : Dev nD) (f : Buf (Elt F) (xLoc d)) :
    (xLoc d ↦{fullShare} f : sProp 𝕄) = bigSep Finset.univ fun w : Fin 32 => xLoc d ↦{shr w} f :=
  ShareLeaves.pointsTo_leaves Finset.univ f 5 fullShare

/-! ## What the call takes and brings back -/

/-- What task `w` takes: its share of the ids, its block of the positions at `f`. -/
abbrev task (d : Dev nD) (f : Buf (Elt F) (pLoc d)) (w : Fin 32) : sProp 𝕄 :=
  iprop((xLoc d ↦{shr w} m (xLoc d)) ∗ pLoc d ↦[blkSet w]{fullShare} f)

abbrev taskNo (c : Fin ((K (F := F)).nCore 0)) (i : Fin ((K (F := F)).nSub 0)) : Fin 32 :=
  wF (coordsV (Fin.cast nCore_zero c) (Fin.cast nSub_zero i))

/-- The positions the call leaves. -/
abbrev pos (d : Dev nD) : Buf (Elt F) (pLoc d) := posArr (m (xLoc d))

def P : (K (F := F)).Pay (nD := nD) (Val := Elt F) (Name := ℕ) (U := UU) where
  st := fun q d c => match q with | 0 => bigSep Finset.univ fun i : Fin ((K (F := F)).nSub 0) => task m d (m (pLoc d)) (taskNo c i)
  dn := fun q d c => match q with | 0 => bigSep Finset.univ fun i : Fin ((K (F := F)).nSub 0) => task m d (pos m d) (taskNo c i)
  go := fun q d c i => match q with | 0 => task m d (m (pLoc d)) (taskNo c i)
  td := fun q d c i => match q with | 0 => task m d (pos m d) (taskNo c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => task m d (m (pLoc d)) (taskNo c i)))
  dn q d c := match q with
    | 0 => (inferInstance : BI.Storable (upEmb : UEmb _ 𝕄) (bigSep Finset.univ fun i : Fin ((K (F := F)).nSub 0) => task m d (pos m d) (taskNo c i)))
  go q d c i := match q with
    | 0 => (inferInstance : BI.Storable (upEmb : UEmb _ 𝕄) (task m d (m (pLoc d)) (taskNo c i)))
  td q d c i := match q with
    | 0 => (inferInstance : BI.Storable (upEmb : UEmb _ 𝕄) (task m d (pos m d) (taskNo c i)))

theorem vecSplit : (K (F := F)).VecSplit' (P m) 0 := by
  intro d c
  show (bigSep Finset.univ fun i : Fin ((K (F := F)).nSub 0) => task m d (m (pLoc d)) (taskNo c i)) ⊢ |={Set.univ}=> iprop(
      (bigSep Finset.univ fun i : Fin ((K (F := F)).nSub 0) => task m d (m (pLoc d)) (taskNo c i))
      ∗ ((bigSep Finset.univ fun i : Fin ((K (F := F)).nSub 0) => task m d (pos m d) (taskNo c i))
          -∗ bigSep Finset.univ fun i : Fin ((K (F := F)).nSub 0) => task m d (pos m d) (taskNo c i)))
  iintro H; imodintro
  isplitl [H]; · iexact H
  iintro H; iexact H

/-- The call's operands for all its cores: the ids and the positions whole. -/
theorem st0_eq (d : Dev nD) :
    (bigSep Finset.univ fun c : Fin ((K (F := F)).nCore 0) => (P m).st 0 d c)
      = iprop((xLoc d ↦{fullShare} m (xLoc d)) ∗ pLoc d ↦{fullShare} m (pLoc d)) := by
  rw [xPts_shares, pPts_blocks, ← bigSep_sep']
  exact bigSep_tasks fun w => task m d (m (pLoc d)) w
theorem dn0_eq (d : Dev nD) :
    (bigSep Finset.univ fun c : Fin ((K (F := F)).nCore 0) => (P m).dn 0 d c)
      = iprop((xLoc d ↦{fullShare} m (xLoc d)) ∗ pLoc d ↦{fullShare} pos m d) := by
  rw [xPts_shares, pPts_blocks, ← bigSep_sep']
  exact bigSep_tasks fun w => task m d (pos m d) w

/-! ## The obligation -/

variable [FloatOps F]

local notation "xV" => (Memref.whole Cert.KernelIdeal.main_arg0_scv : Memref Cert.KernelIdeal.sig Kind.scVector Space.hbm Cert.KernelIdeal.S4x4096 EltTy.i32)
local notation "oV" => (Memref.whole Cert.KernelIdeal.main_v0_scv : Memref Cert.KernelIdeal.sig Kind.scVector Space.hbm Cert.KernelIdeal.S32x32x16 EltTy.i32)
local notation "sI" => (Memref.whole Cert.KernelIdeal.cc0_scratch0 : Memref Cert.KernelIdeal.sig Kind.scVector Space.vmem Cert.KernelIdeal.S4096 EltTy.i32)
local notation "sC" => (Memref.whole Cert.KernelIdeal.cc0_scratch1 : Memref Cert.KernelIdeal.sig Kind.scVector Space.vmem Cert.KernelIdeal.S32x16 EltTy.i32)

theorem defs₀_vector (c : Fin τ.nSC) (s : Fin τ.nSub) :
    defs₀ (F := F) (.scVector c s) 0 ()
      = SparseCore.onTile hcore0 hsub0 (fun c s => cc0__pos_body (coordsV c s)
          xV (Memref.isWhole_whole _) oV (Memref.isWhole_whole _)
          sI (Memref.isWhole_whole _) sC (Memref.isWhole_whole _) cc0_scoped0 cc0_scoped1) ⟨⟩ c s := rfl

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) hF O W hO (shr (taskNo c i)) (m (xLoc d)) (m (pLoc d))
  rw [set_oRowK] at h
  exact h

end Cert.Proof.Call0
-- ==== Proof.Launch.lean ====
/- The program's run: the vector call, the positions reshaped, the dense call, its rows reshaped. -/
module

public import proofs.«01_k».proof.Proof.Region
public import proofs.«01_k».proof.Proof.Call0

@[expose] public section

set_option maxRecDepth 16384

noncomputable section

namespace Cert.Proof.Launch

open Cert.KernelIdeal Cert.KernelIdeal.Gen Cert.Proof.Pos Cert.Proof.Setup Cert.Proof.Call0 Cert.Proof.Region

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## What the arrays hold -/

/-- The positions as the dense call reads them. -/
abbrev Pq (d : Dev nD) : Buf (Elt F) (qLoc d) := fun i => shapeCast S8x1x2048 (pos m d : S32x32x16.Idx → Elt F .i32) shapeCasts_S32x32x16_S8x1x2048 i
abbrev Wv (d : Dev nD) : Buf (Elt F) (wLoc d) := m (wLoc d)
abbrev Ov (d : Dev nD) : Buf (Elt F) (oLoc d) := m (oLoc d)

theorem Pq_small (c : Dev nD) (i) : ((Pq m c i : Elt F .i32) : BitVec 32).toNat < 8192 := by
  show (posArr (m (xLoc c)) _).toNat < 8192
  unfold posArr
  generalize (Shape.reshapeEquiv shapeCasts_S32x32x16_S8x1x2048) i = j
  have h := posOf_le (rowOf (m (xLoc c)) ((j 0).val / 8)) (512 * ((j 0).val % 8) + 16 * (j 1).val + (j 2).val)
  have h0 : (j 0).val < 32 := (j 0).isLt
  have h1 : (j 1).val < 32 := (j 1).isLt
  have h2 : (j 2).val < 16 := (j 2).isLt
  rw [BitVec.toNat_ofNat]
  omega

/-- The program's result. -/
abbrev res (d : Dev nD) : Buf (Elt F) (rLoc d) :=
  fun i => shapeCast S4x4096x2048 (outv (Pq m) (Wv m) (Ov m) d : S16384x2048.Idx → Elt F .f32) shapeCasts_S16384x2048_S4x4096x2048 i

/-! ## The launch element -/

theorem hinj : Function.Injective (Pipeline.cellOf (nD := nD) (τ := τ) (Pipeline.pin (pcfgs (F := F)) adm)) := cellOf_inj

abbrev pg (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) hinj) (Pipeline.launchToks (Pipeline.pin (pcfgs (F := F)) adm) hinj), 1))

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => pg (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HB⟩
  have hsplit := own_pair_emb (embR : Emb UB 𝕄) (initOf (Pipeline.cells (Pipeline.pin (pcfgs (F := F)) adm) hinj) (Pipeline.launchToks (Pipeline.pin (pcfgs (F := F)) adm) hinj)) (1 : Counters)
  rw [show (Emb.inl : Emb (UR sig nD τ) UB).trans (embR : Emb UB 𝕄) = EP (F := F) from rfl] at hsplit
  ihave HB := hsplit $$ HB
  icases HB with ⟨HB, -⟩
  imod (Pipeline.fund_ghost (Pipeline.pin (pcfgs (F := F)) adm) EP hinj) $$ HB with ⟨Hc, Ht⟩
  imodintro
  isplitl [HH]; · iexact HH
  ihave Hc := (Entails.of_eq (show (bigSep Finset.univ fun c : Dev nD => bigSep Finset.univ fun p => Pipeline.cellsGhost (Pipeline.pin (pcfgs (F := F)) adm) EP p c : sProp 𝕄)
      = bigSep Finset.univ fun c : Dev nD => Pipeline.cellsGhost (Pipeline.pin (pcfgs (F := F)) adm) EP 0 c from
        bigSep_congr fun _ _ => bigSep_univ_of_subsingleton (0 : Fin 1))) $$ Hc
  ihave Ht := (Entails.of_eq (show (bigSep Finset.univ fun c : Dev nD => bigSep Finset.univ fun p => Pipeline.toksInit (Pipeline.pin (pcfgs (F := F)) adm) EP p c : sProp 𝕄)
      = bigSep Finset.univ fun c : Dev nD => Pipeline.toksInit (Pipeline.pin (pcfgs (F := F)) adm) EP 0 c from
        bigSep_congr fun _ _ => bigSep_univ_of_subsingleton (0 : Fin 1))) $$ Ht
  isplitl [Hc Ht]
  · iapply (Entails.of_eq (bigSep_sep' (s := (Finset.univ : Finset (Dev nD))) (Φ := fun d => Pipeline.cellsGhost (Pipeline.pin (pcfgs (F := F)) adm) EP 0 d) (Ψ := fun d => Pipeline.toksInit (Pipeline.pin (pcfgs (F := F)) adm) EP 0 d)).symm)
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The program on the TensorCore -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (pLoc d ↦{fullShare} W main_v0) ∗ (qLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- What the program leaves: its two inputs and its result. -/
abbrev FIN (d : Dev nD) : sProp 𝕄 := iprop((xLoc d ↦{fullShare} m (xLoc d)) ∗ (wLoc d ↦{fullShare} m (wLoc d)) ∗ rLoc d ↦{fullShare} res m d)

theorem Otc_one (d : Dev nD) : (K (F := F)).Otc d 1 = 0 := by
  unfold SparseCore.Cfg.Otc
  simp

theorem call_lift : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun x => .ret x : Prog (TpuEff nD τ sig (Elt F) (ΛP (F := F)) .tc) PUnit) := rfl

set_option backward.isDefEq.respectTransparency.types false in
/-- The dense call, from its arrays to the rows it leaves. -/
theorem dense (d : Dev nD) :
    iprop(boundary (T d) ∗ pre (Pq m) (Wv m) (Ov m) d ∗ levAts (K (F := F)).L (K (F := F)).lev ∗ pg (F := F) d)
      ⊢ wp frame (wpE ((K (F := F)).defs (D (F := F))) 𝒱 (T d) none) Set.univ (Prog.lift (.customCall (SparseCore.inner (Pipeline.entry 0)) ()))
          fun _ => iprop(boundary (T d) ∗ post (Pq m) (Wv m) (Ov m) d) := by
  rw [call_lift]
  refine BI.Entails.trans ?_ ((K (F := F)).wp_liftProg (D (F := F)) 𝒱 (T d) Set.univ none _ _)
  have h := Pipeline.RegionSeg.wp (pcfgs (F := F)) adm (pdats (Pq m) (Wv m) (Ov m)) (none : HIx 1) hinj EP defs₀ 𝒱₀ (K (F := F)).L (K (F := F)).lev
    (reg (Pq m) (Wv m) (Ov m) (Pq_small m)) d none (fun u hu => by cases hu) (fun x => .ret x) (fun _ => iprop(boundary (T d) ∗ Region.post (Pq m) (Wv m) (Ov m) d))
  refine BI.Entails.trans (show (_ : sProp 𝕄) ⊢ (_ : sProp 𝕄) from ?_) h
  unfold pg
  show (iprop(boundary (T d) ∗ pre (Pq m) (Wv m) (Ov m) d ∗ levAts (K (F := F)).L (K (F := F)).lev
      ∗ Pipeline.cellsGhost (Pipeline.pin (pcfgs (F := F)) adm) EP 0 d ∗ Pipeline.toksInit (Pipeline.pin (pcfgs (F := F)) adm) EP 0 d) : sProp 𝕄)
    ⊢ iprop((iprop(boundary (T d) ∗ Region.post (Pq m) (Wv m) (Ov m) d)
          -∗ wp Idealize.ShloMosaic.frame (wpE (D (F := F)) 𝒱 (T d) none) Set.univ (.ret PUnit.unit) fun _ => iprop(boundary (T d) ∗ Region.post (Pq m) (Wv m) (Ov m) d))
        ∗ boundary (T d) ∗ pre (Pq m) (Wv m) (Ov m) d ∗ levAts (K (F := F)).L (K (F := F)).lev
        ∗ Pipeline.cellsGhost (Pipeline.pin (pcfgs (F := F)) adm) EP 0 d ∗ Pipeline.toksInit (Pipeline.pin (pcfgs (F := F)) adm) EP 0 d)
  iintro ⟨Hb, Hpre, Hl, Hg1, Hg2⟩
  isplitr
  · iintro ⟨Hb, Hpost⟩
    rw [wp_ret]; imodintro
    isplitl [Hb]; · iexact Hb
    iexact Hpost
  isplitl [Hb]; · iexact Hb
  isplitl [Hpre]; · iexact Hpre
  isplitl [Hl]; · iexact Hl
  isplitl [Hg1]; · iexact Hg1
  iexact Hg2

/-! ### The two reshapes -/

abbrev p' : DevRef τ sig := Proc.devRef .tc (main_v0 : Ref sig .tc)
abbrev q' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opA : HloOp τ sig (Elt F) := StableHlo.reshape main_v0 main_v1 (rfl : (.i32 : EltTy) = .i32) shapeCasts_S32x32x16_S8x1x2048
abbrev opB : HloOp τ sig (Elt F) := StableHlo.reshape main_v2 main_v3 (rfl : (.f32 : EltTy) = .f32) shapeCasts_S16384x2048_S4x4096x2048

theorem held_A (d : Dev nD) (W : Valuation τ sig (Elt F)) : (held (T d) {p', q'} W : sProp 𝕄) = iprop((pLoc d ↦{fullShare} W p') ∗ qLoc d ↦{fullShare} W q') := by
  unfold held
  rw [SparseCore.bigSep_insert' (by decide), bigSep_singleton]
theorem held_B (d : Dev nD) (W : Valuation τ sig (Elt F)) : (held (T d) {o', r'} W : sProp 𝕄) = iprop((oLoc d ↦{fullShare} W o') ∗ rLoc d ↦{fullShare} W r') := by
  unfold held
  rw [SparseCore.bigSep_insert' (by decide), bigSep_singleton]

theorem resA {d : Dev nD} (f : Buf (Elt F) (pLoc d)) (V : Valuation τ sig (Elt F)) (h : V p' = f) :
    (opA (F := F)).result V q' = fun i => shapeCast S8x1x2048 (f : S32x32x16.Idx → Elt F .i32) shapeCasts_S32x32x16_S8x1x2048 i := by
  subst h
  exact StableHlo.reshape_result ..
theorem resB {d : Dev nD} (f : Buf (Elt F) (oLoc d)) (V : Valuation τ sig (Elt F)) (h : V o' = f) :
    (opB (F := F)).result V r' = fun i => shapeCast S4x4096x2048 (f : S16384x2048.Idx → Elt F .f32) shapeCasts_S16384x2048_S4x4096x2048 i := by
  subst h
  exact StableHlo.reshape_result ..

theorem stepA (d : Dev nD) (f : Buf (Elt F) (pLoc d)) :
    (iprop(boundary (T d) ∗ (pLoc d ↦{fullShare} f) ∗ qLoc d ↦{fullShare} m (qLoc d)) : sProp 𝕄)
      ⊢ wp frame (wpE ((K (F := F)).defs (D (F := F))) 𝒱 (T d) none) Set.univ (hlo rfl (opA (F := F)) fun _ => .ret PUnit.unit)
          fun _ => iprop(boundary (T d) ∗ (pLoc d ↦{fullShare} f) ∗ qLoc d ↦{fullShare} (fun i => shapeCast S8x1x2048 (f : S32x32x16.Idx → Elt F .i32) shapeCasts_S32x32x16_S8x1x2048 i : Buf (Elt F) (qLoc d))) := by
  have h0 : Function.update (fun b => m (d, b)) p' f p' = f := Function.update_self _ _ _
  have h1 : Function.update (fun b => m (d, b)) p' f q' = m (qLoc d) := Function.update_of_ne (show q' ≠ p' by decide) _ _
  iintro ⟨Hb, Hp, Hq⟩
  iapply (wp_hlo_within 𝒱 (T d) none Set.univ (op := opA (F := F)) (S := {p', q'}) (show ({p', q'} : Finset (DevRef τ sig)) ⊆ {p', q'} from subset_rfl) (V := Function.update (fun b => m (d, b)) p' f)) $$ [Hb Hp Hq]
  · isplitl [Hb]; · iexact Hb
    rw [held_A, h0, h1]
    isplitl [Hp]; · iexact Hp
    iexact Hq
  iintro ⟨Hb, Hh⟩
  ihave Hh := (Entails.of_eq (held_A (F := F) d _)) $$ Hh
  icases Hh with ⟨Hp, Hq⟩
  ihave Hp := (Entails.of_eq (congrArg (fun g => (pLoc d ↦{fullShare} g : sProp 𝕄)) ((StableHlo.reshape_result_ne (h := show (main_v0 : Ref sig .tc) ≠ main_v1 by decide) ..).trans h0))) $$ Hp
  ihave Hq := (Entails.of_eq (congrArg (fun g => (qLoc d ↦{fullShare} g : sProp 𝕄)) (resA f _ h0))) $$ Hq
  rw [wp_ret]; imodintro
  isplitl [Hb]; · iexact Hb
  isplitl [Hp]; · iexact Hp
  iexact Hq

theorem stepB (d : Dev nD) (f : Buf (Elt F) (oLoc d)) :
    (iprop(boundary (T d) ∗ (oLoc d ↦{fullShare} f) ∗ rLoc d ↦{fullShare} m (rLoc d)) : sProp 𝕄)
      ⊢ wp frame (wpE ((K (F := F)).defs (D (F := F))) 𝒱 (T d) none) Set.univ (hlo rfl (opB (F := F)) fun _ => .ret PUnit.unit)
          fun _ => iprop(boundary (T d) ∗ (oLoc d ↦{fullShare} f) ∗ rLoc d ↦{fullShare} (fun i => shapeCast S4x4096x2048 (f : S16384x2048.Idx → Elt F .f32) shapeCasts_S16384x2048_S4x4096x2048 i : Buf (Elt F) (rLoc d))) := by
  have h0 : Function.update (fun b => m (d, b)) o' f o' = f := Function.update_self _ _ _
  have h1 : Function.update (fun b => m (d, b)) o' f r' = m (rLoc d) := Function.update_of_ne (show r' ≠ o' by decide) _ _
  iintro ⟨Hb, Hp, Hq⟩
  iapply (wp_hlo_within 𝒱 (T d) none Set.univ (op := opB (F := F)) (S := {o', r'}) (show ({o', r'} : Finset (DevRef τ sig)) ⊆ {o', r'} from subset_rfl) (V := Function.update (fun b => m (d, b)) o' f)) $$ [Hb Hp Hq]
  · isplitl [Hb]; · iexact Hb
    rw [held_B, h0, h1]
    isplitl [Hp]; · iexact Hp
    iexact Hq
  iintro ⟨Hb, Hh⟩
  ihave Hh := (Entails.of_eq (held_B (F := F) d _)) $$ Hh
  icases Hh with ⟨Hp, Hq⟩
  ihave Hp := (Entails.of_eq (congrArg (fun g => (oLoc d ↦{fullShare} g : sProp 𝕄)) ((StableHlo.reshape_result_ne (h := show (main_v2 : Ref sig .tc) ≠ main_v3 by decide) ..).trans h0))) $$ Hp
  ihave Hq := (Entails.of_eq (congrArg (fun g => (rLoc d ↦{fullShare} g : sProp 𝕄)) (resB f _ h0))) $$ Hq
  rw [wp_ret]; imodintro
  isplitl [Hb]; · iexact Hb
  isplitl [Hp]; · iexact Hp
  iexact Hq

theorem hmain (κ : GSem nD τ sig → ℕ) (d : Dev nD) :
    iprop((K (F := F)).ctx EH (P m) κ ∗ (K (F := F)).tcSt EH d 0 ∗ (K (F := F)).tcRes m ρ d ∗ pg (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hp, Hq, Ho, Hr⟩, Hts, -⟩, Hg⟩
  iapply ((K (F := F)).wp_run (D (F := F)) 𝒱 (EH := EH) (P := P m) κ d 0)
  isplitr; · iexact Hctx
  isplitl [Hst]; · iexact Hst
  isplitl [Hx Hp]
  · rw [st0_eq]
    isplitl [Hx]; · iexact Hx
    iexact Hp
  iintro ⟨Hst, Hdn⟩
  ihave Hdn' := (Entails.of_eq (dn0_eq m d)) $$ Hdn
  icases Hdn' with ⟨Hx, Hp⟩
  -- the positions, reshaped
  iapply (wp_wand_r Idealize.ShloMosaic.frame (wpE ((K (F := F)).defs (D (F := F))) 𝒱 (T d) none) Set.univ)
  isplitl [Hb Hp Hq]
  · iapply (stepA m d (pos m d))
    isplitl [Hb]; · iexact Hb
    isplitl [Hp]; · iexact Hp
    iexact Hq
  iintro %_ ⟨Hb, -, Hq⟩
  -- the dense call
  iapply (wp_wand_r Idealize.ShloMosaic.frame (wpE ((K (F := F)).defs (D (F := F))) 𝒱 (T d) none) Set.univ)
  unfold SparseCore.Cfg.tcSt
  icases Hst with ⟨HO, Hrest⟩
  rw [show ((0 : Fin 1).val + 1) = 1 from rfl, Otc_one]
  isplitl [Hb Hq Hw Ho HO Hg]
  · iapply (dense m d)
    isplitl [Hb]; · iexact Hb
    isplitl [Hq Hw Ho HO]
    · unfold pre
      isplitl [Hq]; · iexact Hq
      isplitl [Hw]; · iexact Hw
      isplitl [Ho]; · iexact Ho
      iexact HO
    isplitr
    · iapply (SparseCore.Cfg.ctx_levAts κ); iexact Hctx
    iexact Hg
  unfold Region.post
  iintro %_ ⟨Hb, -, Hw, Ho, HO⟩
  -- its rows, reshaped
  iapply (wp_wand_r Idealize.ShloMosaic.frame (wpE ((K (F := F)).defs (D (F := F))) 𝒱 (T d) none) Set.univ)
  isplitl [Hb Ho Hr]
  · iapply (stepB m d _)
    isplitl [Hb]; · iexact Hb
    isplitl [Ho]; · iexact Ho
    iexact Hr
  iintro %_ ⟨Hb, -, Hr⟩
  imodintro
  isplitl [HO Hrest]
  · isplitl [HO]; · iexact HO
    iexact Hrest
  isplitl [Hx Hw Hr]
  · isplitl [Hx]; · iexact Hx
    isplitl [Hw]; · iexact Hw
    iexact Hr
  isplitl [Hb]; · iexact Hb
  iexact Hts

/-! ## The run -/

def fq (d : Dev nD) (s' : Phys nD τ sig (Elt F)) : Prop :=
  s'.mem.mem (xLoc d) = m (xLoc d) ∧ s'.mem.mem (wLoc d) = m (wLoc d) ∧ s'.mem.mem (rLoc d) = res m d

theorem hfin (d : Dev nD) (s' : Phys nD τ sig (Elt F)) : iprop(FIN m d ∗ SI s') ⊢ (⌜fq m d s'⌝ : sProp 𝕄) := by
  iintro ⟨⟨Hx, Hw, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (SI_pointsTo_agree (st := s') (ℓ := rLoc d) (I := Finset.univ) (q := fullShare) (f := res m d)) $$ [HSI Hr]
  · isplitl [HSI] <;> iassumption
  icases H with %hr
  ipureintro
  exact ⟨funext fun i => hx i (Finset.mem_univ i), funext fun i => hw i (Finset.mem_univ i), funext fun i => hr i (Finset.mem_univ i)⟩

def QC : PUnit × MemSt nD τ sig (Elt F) → Prop := fun r =>
  (∀ d : Dev nD, r.2.mem (xLoc d) = m (xLoc d) ∧ r.2.mem (wLoc d) = m (wLoc d) ∧ r.2.mem (rLoc d) = res m d) ∧ r.2.sem = fun _ => 0

/-- Every run ends with the inputs as they were, the result at `res`, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => pg (F := F) d) (FIN m) (u₀ (F := F)) (sep_elim_left.trans (hu₀ m)) (hmain m ρ) (fq m) (hfin m) (QC m) (fun _ h hz => ⟨h, hz⟩)

end Cert.Proof.Launch

end
-- ==== Proof.Frame.lean ====
/- The two printed kernels have one text: their body tables and threads are the same, so the run of the one is the
   run of the other. -/
module

public import proofs.«01_k».proof.Defs
public import proofs.«01_k».proof.Proof.Gen.Kernel
public import proofs.«01_k».proof.Proof.Launch

@[expose] public section

set_option maxRecDepth 16384
set_option maxHeartbeats 4000000

noncomputable section

namespace Cert.Proof.Frame

open Idealize.ShloMosaic Idealize.SL.Sem

/-- The kernels' own body tables, label by label. -/
theorem base_eq : Cert.Kernel.defs₀ (F := Bits) = Cert.KernelIdeal.defs₀ (F := Bits) := by
  funext p ℓ a
  cases p <;> match ℓ, a with
    | 0, a => rfl
    | 1, a => rfl

theorem pipe_eq : Pipeline.defs (Cert.Kernel.pcfgs (F := Bits)) (Cert.Kernel.defs₀ (F := Bits))
    = Pipeline.defs (Cert.KernelIdeal.pcfgs (F := Bits)) (Cert.KernelIdeal.defs₀ (F := Bits)) :=
  congrArg (Pipeline.defs (Cert.KernelIdeal.pcfgs (F := Bits))) base_eq

theorem defs_eq : Cert.Kernel.defs (F := Bits) = Cert.KernelIdeal.defs (F := Bits) :=
  congrArg (Cert.KernelIdeal.sc (F := Bits)).defs pipe_eq

theorem main_eq : Cert.Kernel.main (F := Bits) = Cert.KernelIdeal.main (F := Bits) := rfl

theorem threads_eq : Cert.Kernel.threads (F := Bits) = Cert.KernelIdeal.threads (F := Bits) :=
  congrArg (Cert.KernelIdeal.sc (F := Bits)).threads main_eq

/-- Equal body tables and equal threads run alike. -/
theorem run_congr {nD : ℕ} {τ : Topo} {sig : RefSig} {Λ : Labels} {D D' : Defs nD τ sig (Elt Bits) Λ}
    {T T' : (c : Thread nD τ) → Prog (TpuEff nD τ sig (Elt Bits) Λ c.2) PUnit} (hD : D = D') (hT : T = T')
    (σ) (Q) (h : θ_run D' T' σ Q) : θ_run D T σ Q := by
  subst hD hT
  exact h

theorem frame_kernel : Cert.quiescent_Kernel := fun m ρ _ =>
  run_congr defs_eq threads_eq _ _
    ((θ_run Cert.KernelIdeal.defs _ _).mono (fun _ h => ⟨fun c => ⟨(h.1 c).1, (h.1 c).2.1⟩, h.2⟩) (Launch.run_main (F := Bits) m ρ))

theorem frame_ideal : Cert.quiescent_KernelIdeal := fun m ρ _ =>
  (θ_run Cert.KernelIdeal.defs _ _).mono (fun _ h => ⟨fun c => ⟨(h.1 c).1, (h.1 c).2.1⟩, h.2⟩) (Launch.run_main (F := Ideal) m ρ)

end Cert.Proof.Frame

end
-- ==== Proof.Near.lean ====
/- The dense call's one-hot product at the ideal values: a row whose position is below sixteen is that row of the table's
first sixteen. -/
module

public import proofs.«01_k».proof.Proof.Region
public import Idealize.ShloMosaic.PureOps.Ideal.Laws
public import Idealize.ShloMosaic.Lib.Pipeline.Value

@[expose] public section

set_option maxRecDepth 16384

noncomputable section

namespace Cert.Proof.Near

open Cert.KernelIdeal Cert.KernelIdeal.Gen Cert.Proof.Setup Cert.Proof.Cnt Cert.Proof.TcGeo

open Idealize.ShloMosaic

/-- The dot of the dense call. -/
abbrev dd := dot_S2048x16_S16x2048_S2048x2048_1_0_0_1_n_n

/-- The one-hot operand. -/
def hot (Q : Blk) : FVec Ideal S2048x16 .f32 :=
  sitofp .f32 (extui 32 (cmpi .eq (broadcastTo S2048x16 (shapeCast S2048x1 (k1_pay1 (F := Ideal) Q) shapeCasts_S2048_S2048x1) broadcasts_S2048x1_S2048x16)
    (iota .tc S2048x16 32 [1] iota_S2048x16_d1_w32)) natLt_1_32)

theorem pos_apply (Q : Blk) (r : Fin 2048) (k : Fin 16) :
    (broadcastTo S2048x16 (shapeCast S2048x1 (k1_pay1 (F := Ideal) Q) shapeCasts_S2048_S2048x1) broadcasts_S2048x1_S2048x16 : IVec S2048x16 32) (ValueIdx.ix2 r k)
      = Q (ixQ r) := by
  have e : (broadcastTo S2048x16 (shapeCast S2048x1 (k1_pay1 (F := Ideal) Q) shapeCasts_S2048_S2048x1) broadcasts_S2048x1_S2048x16 : IVec S2048x16 32) (ValueIdx.ix2 r k)
      = shapeCast S2048x1 (k1_pay1 (F := Ideal) Q) shapeCasts_S2048_S2048x1 (ValueIdx.ix2 r (0 : Fin 1)) := by
    unfold broadcastTo
    congr 1
    funext a
    fin_cases a <;> rfl
  rw [e]
  rw [shapeCast_apply (k1_pay1 (F := Ideal) Q) shapeCasts_S2048_S2048x1 (ValueIdx.ix2 r (0 : Fin 1)) (ValueIdx.ix1 r)
    (by rw [Shape.rowMajor_val_one, Shape.rowMajor_val_two]; show r.val = r.val * 1 + 0; omega)]
  show shapeCast S2048 Q shapeCasts_S1x1x2048_S2048 (ValueIdx.ix1 r) = _
  exact shapeCast_apply Q shapeCasts_S1x1x2048_S2048 (ValueIdx.ix1 r) (ixQ r)
    (by rw [Shape.rowMajor_val_three, Shape.rowMajor_val_one]; show ((0 * 1 + 0) * 2048 + r.val) = r.val; omega)

theorem hot_apply (Q : Blk) (r : Fin 2048) (k : Fin 16) :
    hot Q (ValueIdx.ix2 r k) = if (Q (ixQ r)).toNat = k.val then 1 else 0 := by
  have e : hot Q (ValueIdx.ix2 r k) = (((((IntOp.cmpi .eq (Q (ixQ r)) (BitVec.ofNat 32 (0 * 16 + k.val))).setWidth 32).toInt : ℝ)) : EReal) := by
    rw [← pos_apply Q r k]
    rfl
  rw [Nat.zero_mul, Nat.zero_add] at e
  rw [e]
  have hk := k.isLt
  by_cases h : (Q (ixQ r)).toNat = k.val
  · rw [if_pos h]
    have : Q (ixQ r) = BitVec.ofNat 32 k.val := BitVec.eq_of_toNat_eq (by rw [h, BitVec.toNat_ofNat]; omega)
    rw [IntOp.cmpi_eq.mpr this]
    norm_num
  · rw [if_neg h]
    have h2 : ¬ Q (ixQ r) = BitVec.ofNat 32 k.val := fun he => h (by rw [he, BitVec.toNat_ofNat]; omega)
    have : IntOp.cmpi .eq (Q (ixQ r)) (BitVec.ofNat 32 k.val) = 0#1 := by
      rcases (by decide : ∀ b : BitVec 1, b = 0#1 ∨ b = 1#1) (IntOp.cmpi .eq (Q (ixQ r)) (BitVec.ofNat 32 k.val)) with hb | hb
      · exact hb
      · exact absurd (IntOp.cmpi_eq.mp hb) h2
    rw [this]
    norm_num

/-- A row whose position is below sixteen is that row of the sixteen. -/
theorem pay_near (Q : Blk) (W8 : Vec Ideal S16x2048 .f32) (r c : Fin 2048) (h : (Q (ixQ r)).toNat < 16) :
    k1_pay2 (F := Ideal) Q W8 (ValueIdx.ix2 r c) = W8 (ValueIdx.ix2 ⟨(Q (ixQ r)).toNat, h⟩ c) := by
  have e : k1_pay2 (F := Ideal) Q W8 (ValueIdx.ix2 r c)
      = ∑ k : dd.contr.Idx, hot Q (dd.lhsIdx (ValueIdx.ix2 r c) k) * (W8 : S16x2048.Idx → EReal) (dd.rhsIdx (ValueIdx.ix2 r c) k) :=
    Ideal.matmul_constant_zero_apply dd none (hot Q) W8 (ValueIdx.ix2 r c)
  rw [e]
  have hl : ∀ k : dd.contr.Idx, dd.lhsIdx (ValueIdx.ix2 r c) k = ValueIdx.ix2 r (⟨(k ⟨0, by decide⟩).val, (k ⟨0, by decide⟩).isLt⟩ : Fin 16) :=
    fun k => by funext a; fin_cases a <;> rfl
  have hr : ∀ k : dd.contr.Idx, dd.rhsIdx (ValueIdx.ix2 r c) k = ValueIdx.ix2 (⟨(k ⟨0, by decide⟩).val, (k ⟨0, by decide⟩).isLt⟩ : Fin 16) c :=
    fun k => by funext a; fin_cases a <;> rfl
  simp only [hl, hr, hot_apply]
  rw [Finset.sum_eq_single (fun a => (⟨(Q (ixQ r)).toNat, by
      have : dd.contr.size a = 16 := by fin_cases a; rfl
      omega⟩ : Fin (dd.contr.size a)))]
  · rw [if_pos rfl, one_mul]
  · intro k _ hne
    rw [if_neg, zero_mul]
    intro he
    apply hne
    funext a
    fin_cases a
    exact Fin.ext he.symm
  · intro hn
    exact absurd (Finset.mem_univ _) hn

end Cert.Proof.Near

end
-- ==== Proof.Value.lean ====
/- The dense call's result, element by element: every row is the row of the table that its position names. -/
module

public import proofs.«01_k».proof.Proof.Near
public import proofs.«01_k».proof.Proof.Launch

@[expose] public section

set_option maxRecDepth 16384

noncomputable section

namespace Cert.Proof.Value

open Cert.KernelIdeal Cert.KernelIdeal.Gen Cert.Proof.Pos Cert.Proof.Setup Cert.Proof.Cnt Cert.Proof.TcGeo Cert.Proof.Region

open Idealize.ShloMosaic
open Idealize.ShloMosaic.Pipeline (Dat Cfg Window)

variable {F : FTy → Type} [FloatOps F]

variable (Pq : (c : Dev nD) → Buf (Elt F) (qLoc c)) (Wv : (c : Dev nD) → Buf (Elt F) (wLoc c)) (Ov : (c : Dev nD) → Buf (Elt F) (oLoc c))

theorem off0 : ∀ t : Fin cfg1.N, ∀ a : Fin 3, ((cfg1.win 0).rect t).off a = ![t.val, 0, 0] a := by decide +kernel
theorem off2 : ∀ t : Fin cfg1.N, ∀ a : Fin 2, ((cfg1.win 2).rect t).off a = 0 := by decide +kernel
theorem off3 : ∀ t : Fin cfg1.N, ∀ a : Fin 2, ((cfg1.win 3).rect t).off a = ![2048 * t.val, 0] a := by decide +kernel

theorem blkQ_apply (c : Dev nD) (t : Fin cfg1.N) (r : Fin 2048) :
    blkQ Pq c t (ixQ r) = (Pq c : S8x1x2048.Idx → BitVec 32) (ValueIdx.ix3 (⟨t.val, t.isLt⟩ : Fin 8) (0 : Fin 1) r) := by
  unfold blkQ
  rw [View.read_apply]
  refine congrArg (Pq c : S8x1x2048.Idx → BitVec 32) ?_
  refine Rect.emb_eq_of_coords ((cfg1.win 0).rect t) _ _ fun a => ?_
  refine Eq.trans ?_ (congrArg (· + _) (off0 t a).symm)
  fin_cases a
  · show t.val = t.val + 1 * 0; omega
  · show 0 = 0 + 1 * 0; omega
  · show r.val = 0 + 1 * r.val; omega

theorem top_apply (c : Dev nD) (p : Fin 16) (k : Fin 2048) :
    top Wv c (ValueIdx.ix2 p k) = (Wv c : S8192x2048.Idx → Elt F .f32) (ValueIdx.ix2 (⟨p.val, by omega⟩ : Fin 8192) k) := by
  unfold top
  rw [View.read_apply]
  refine congrArg (Wv c : S8192x2048.Idx → Elt F .f32) ?_
  refine Rect.emb_eq_of_coords ((cfg1.win 2).rect t1_0) _ _ fun a => ?_
  refine Eq.trans ?_ (congrArg (· + _) (off2 t1_0 a).symm)
  fin_cases a
  · show p.val = 0 + 1 * p.val; omega
  · show k.val = 0 + 1 * k.val; omega

/-- The whole result. -/
theorem outv_eq (c : Dev nD) : outv Pq Wv Ov c = (fun i : S16384x2048.Idx =>
    fin (blkQ Pq c (⟨(i 0).val / 2048, by have : (i 0).val < 16384 := (i 0).isLt; show _ < 8; omega⟩ : Fin 8)) (top Wv c) (Wv c)
      (ValueIdx.ix2 (⟨(i 0).val % 2048, Nat.mod_lt _ (by decide)⟩ : Fin 2048) (i 1))) := by
  refine (dat Pq Wv Ov c).arrAt_eq_of_covers 3 _ (by decide +kernel) (fun t hf y => ?_)
  obtain ⟨r, k, rfl⟩ : ∃ (r k : Fin 2048), y = ValueIdx.ix2 r k := ⟨y 0, y 1, ValueIdx.eq_ix2 y⟩
  have e : ((cfg1.win 3).blk t).view.emb (ValueIdx.ix2 r k)
      = (ValueIdx.ix2 (⟨2048 * t.val + r.val, by have : t.val < 8 := t.isLt; omega⟩ : Fin 16384) k : S16384x2048.Idx) := by
    refine Rect.emb_eq_of_coords ((cfg1.win 3).rect t) _ _ fun a => ?_
    refine Eq.trans ?_ (congrArg (· + _) (off3 t a).symm)
    fin_cases a
    · show 2048 * t.val + r.val = 2048 * t.val + 1 * r.val; omega
    · show k.val = 0 + 1 * k.val; omega
  rw [e]
  show fin (blkQ Pq c t) (top Wv c) (Wv c) (ValueIdx.ix2 r k) = fin (blkQ Pq c ⟨(2048 * t.val + r.val) / 2048, _⟩) (top Wv c) (Wv c)
    (ValueIdx.ix2 (⟨(2048 * t.val + r.val) % 2048, _⟩ : Fin 2048) k)
  congr 1
  · congr 1
    exact Fin.ext (by show t.val = (2048 * t.val + r.val) / 2048; omega)
  · congr 1
    exact Fin.ext (by show r.val = (2048 * t.val + r.val) % 2048; omega)

/-- At the ideal values a row of a block is the table's row at its position. -/
theorem fin_row (Q : Blk) (hQ : Small Q) (W8 : Vec Ideal S16x2048 .f32) (w : S8192x2048.Idx → EReal)
    (h8 : ∀ (p : Fin 16) (k : Fin 2048), (W8 (ValueIdx.ix2 p k) : EReal) = w (ValueIdx.ix2 (⟨p.val, by omega⟩ : Fin 8192) k)) (r k : Fin 2048) :
    fin (F := Ideal) Q W8 w (ValueIdx.ix2 r k) = w (ValueIdx.ix2 (⟨(Q (ixQ r)).toNat, by have := hQ r.val; rwa [pv_fin] at this⟩ : Fin 8192) k) := by
  have hr := hQ r.val
  rw [pv_fin] at hr
  unfold fin
  show (if far Q r.val then rowW (F := Ideal) w (pv Q r.val).toNat k else k1_pay2 (F := Ideal) Q W8 (ValueIdx.ix2 r k)) = _
  by_cases h : far Q r.val
  · rw [if_pos h, pv_fin]
    unfold rowW
    congr 2
    exact Fin.ext (Nat.mod_eq_of_lt hr)
  · rw [if_neg h]
    have h16 : (Q (ixQ r)).toNat < 16 := by
      unfold far at h; rw [pv_fin] at h; omega
    rw [Near.pay_near Q W8 r k h16]
    exact h8 _ _

theorem outv_row (Pq : (c : Dev nD) → Buf (Elt Ideal) (qLoc c)) (Wv : (c : Dev nD) → Buf (Elt Ideal) (wLoc c)) (Ov : (c : Dev nD) → Buf (Elt Ideal) (oLoc c))
    (hP : ∀ c i, ((Pq c i : Elt Ideal .i32) : BitVec 32).toNat < 8192) (c : Dev nD) (g : Fin 8) (r k : Fin 2048) :
    (outv Pq Wv Ov c : S16384x2048.Idx → EReal) (ValueIdx.ix2 (⟨2048 * g.val + r.val, by omega⟩ : Fin 16384) k)
      = (Wv c : S8192x2048.Idx → EReal) (ValueIdx.ix2 (⟨((Pq c : S8x1x2048.Idx → BitVec 32) (ValueIdx.ix3 g (0 : Fin 1) r)).toNat, hP c _⟩ : Fin 8192) k) := by
  rw [outv_eq]
  have e1 : (⟨(2048 * g.val + r.val) / 2048, by show _ < 8; omega⟩ : Fin cfg1.N) = g := Fin.ext (by show (2048 * g.val + r.val) / 2048 = g.val; omega)
  have e2 : (⟨(2048 * g.val + r.val) % 2048, Nat.mod_lt _ (by decide)⟩ : Fin 2048) = r := Fin.ext (by show (2048 * g.val + r.val) % 2048 = r.val; omega)
  show fin (F := Ideal) (blkQ Pq c ⟨(2048 * g.val + r.val) / 2048, _⟩) (top Wv c) (Wv c) (ValueIdx.ix2 (⟨(2048 * g.val + r.val) % 2048, _⟩ : Fin 2048) k) = _
  rw [e1, e2, fin_row _ (blkQ_small Pq hP c g) _ _ (fun p k => top_apply Wv c p k)]
  congr 2
  exact Fin.ext (congrArg BitVec.toNat (blkQ_apply Pq c g r))

/-- The positions as the dense call reads them, at row `s` of batch `b`. -/
theorem Pq_apply (m : (ℓ : Loc nD τ sig) → Buf (Elt F) ℓ) (d : Dev nD) (b : Fin 4) (s : Fin 4096) (g : Fin 8) (r : Fin 2048)
    (h : 4096 * b.val + s.val = 2048 * g.val + r.val) :
    (Launch.Pq m d : S8x1x2048.Idx → BitVec 32) (ValueIdx.ix3 g (0 : Fin 1) r) = BitVec.ofNat 32 (posOf (rowOf (m (xLoc d)) b.val) s.val) := by
  have e := shapeCast_apply (s := S32x32x16) (Call0.pos m d : S32x32x16.Idx → BitVec 32) shapeCasts_S32x32x16_S8x1x2048 (ValueIdx.ix3 g (0 : Fin 1) r)
    (ValueIdx.ix3 (⟨(4096 * b.val + s.val) / 512, by omega⟩ : Fin 32) (⟨(4096 * b.val + s.val) % 512 / 16, by omega⟩ : Fin 32) (⟨(4096 * b.val + s.val) % 16, by omega⟩ : Fin 16))
    (by
      rw [Shape.rowMajor_val_three, Shape.rowMajor_val_three]
      show ((4096 * b.val + s.val) / 512 * 32 + (4096 * b.val + s.val) % 512 / 16) * 16 + (4096 * b.val + s.val) % 16 = (g.val * 1 + 0) * 2048 + r.val
      omega)
  refine e.trans ?_
  show BitVec.ofNat 32 (posOf (rowOf (m (xLoc d)) ((4096 * b.val + s.val) / 512 / 8)) (512 * ((4096 * b.val + s.val) / 512 % 8) + 16 * ((4096 * b.val + s.val) % 512 / 16) + (4096 * b.val + s.val) % 16)) = _
  rw [show (4096 * b.val + s.val) / 512 / 8 = b.val by omega,
    show 512 * ((4096 * b.val + s.val) / 512 % 8) + 16 * ((4096 * b.val + s.val) % 512 / 16) + (4096 * b.val + s.val) % 16 = s.val by omega]

theorem pos_lt (a : ℕ → BitVec 32) (s : Fin 4096) : posOf a s.val < 8192 := by
  have := posOf_le a s.val
  omega

/-- The program's result: every row is the table's row at the token's position. -/
theorem res_row (m : (ℓ : Loc nD τ sig) → Buf (Elt Ideal) ℓ) (d : Dev nD) (b : Fin 4) (s : Fin 4096) (k : Fin 2048) :
    (Launch.res m d : S4x4096x2048.Idx → EReal) (ValueIdx.ix3 b s k)
      = (m (wLoc d) : S8192x2048.Idx → EReal) (ValueIdx.ix2 (⟨posOf (rowOf (m (xLoc d)) b.val) s.val, pos_lt _ s⟩ : Fin 8192) k) := by
  obtain ⟨g, r, h⟩ : ∃ (g : Fin 8) (r : Fin 2048), 4096 * b.val + s.val = 2048 * g.val + r.val :=
    ⟨⟨(4096 * b.val + s.val) / 2048, by omega⟩, ⟨(4096 * b.val + s.val) % 2048, by omega⟩, by show _ = 2048 * ((4096 * b.val + s.val) / 2048) + (4096 * b.val + s.val) % 2048; omega⟩
  have e := shapeCast_apply (s := S16384x2048) (outv (Launch.Pq m) (Launch.Wv m) (Launch.Ov m) d : S16384x2048.Idx → EReal) shapeCasts_S16384x2048_S4x4096x2048 (ValueIdx.ix3 b s k)
    (ValueIdx.ix2 (⟨2048 * g.val + r.val, by omega⟩ : Fin 16384) k)
    (by
      rw [Shape.rowMajor_val_two, Shape.rowMajor_val_three]
      show (2048 * g.val + r.val) * 2048 + k.val = (b.val * 4096 + s.val) * 2048 + k.val
      omega)
  refine e.trans ?_
  rw [outv_row (Launch.Pq m) (Launch.Wv m) (Launch.Ov m) (Launch.Pq_small m) d g r k]
  congr 2
  refine Fin.ext ?_
  show ((Launch.Pq m d : S8x1x2048.Idx → BitVec 32) (ValueIdx.ix3 g (0 : Fin 1) r)).toNat = posOf _ _
  rw [Pq_apply m d b s g r h, BitVec.toNat_ofNat]
  have := pos_lt (rowOf (m (xLoc d)) b.val) s
  omega

end Cert.Proof.Value

end
-- ==== Proof.RefOps.lean ====
/- Three operations of the reference, each read at one element: the running sum along the rows of a matrix, the
take along its rows, and the take of whole rows of the table. -/
module

public import proofs.«01_k».proof.Proof.Gen.ReferenceIdeal.Run
public import Idealize.ShloMosaic.Lib.Routing.Ops
public import Idealize.ShloMosaic.Lib.Routing.OpsPair
public import Idealize.ShloMosaic.Lib.Routing.OpsOrder

@[expose] public section

set_option maxRecDepth 16384

noncomputable section

namespace Cert.Proof.RefOps

open Idealize.ShloMosaic Idealize.ShloMosaic.ValueIdx Idealize.ShloMosaic.Routing

/-- A sum over a window of `M + 1` columns that ends at the column, below which the row is padded, is the sum of the
row's entries up to the column. -/
theorem rows_cumsum {R N M : ℕ} (hN : N = M + 1) (x : IVec (shape2 R N) 32) (b : Fin R) (f : ℕ → ℕ)
    (hx : ∀ i : Fin N, x (ix2 b i) = BitVec.ofNat 32 (f i.val)) (init : IVec shape0 32) (hinit : ∀ i, init i = 0#32)
    (h : (shape2 R N).ReduceWindows (![1, N] : Fin 2 → ℕ) ![1, 1] ![0, M] ![0, 0] (shape2 R N)) (hu : 0 < shape0.numel)
    (j : Fin N) :
    Host.reduceWindow IntOp.addi ![1, N] ![1, 1] ![0, M] ![0, 0] x init h hu (ix2 b j)
      = BitVec.ofNat 32 ((List.range (j.val + 1)).map f).sum := by
  subst hN
  have hz : init (Shape.Idx.first hu) = BitVec.ofNat 32 0 := hinit _
  have hjl := j.isLt
  have hbl := b.isLt
  have hterm : ∀ (n : Fin (shape2 1 (M + 1)).numel) (inst : Decidable (∀ a : Fin 2, (![0, M] : Fin 2 → ℕ) a ≤ (ix2 b j a).val * (![1, 1] : Fin 2 → ℕ) a + ((shape2 1 (M + 1)).rowMajor.symm n a).val
          ∧ (ix2 b j a).val * (![1, 1] : Fin 2 → ℕ) a + ((shape2 1 (M + 1)).rowMajor.symm n a).val - (![0, M] : Fin 2 → ℕ) a < (shape2 R (M + 1)).size a)),
      @dite (BitVec 32) (∀ a : Fin 2, (![0, M] : Fin 2 → ℕ) a ≤ (ix2 b j a).val * (![1, 1] : Fin 2 → ℕ) a + ((shape2 1 (M + 1)).rowMajor.symm n a).val
          ∧ (ix2 b j a).val * (![1, 1] : Fin 2 → ℕ) a + ((shape2 1 (M + 1)).rowMajor.symm n a).val - (![0, M] : Fin 2 → ℕ) a < (shape2 R (M + 1)).size a) inst
        (fun hin => x (fun a => ⟨(ix2 b j a).val * (![1, 1] : Fin 2 → ℕ) a + ((shape2 1 (M + 1)).rowMajor.symm n a).val - (![0, M] : Fin 2 → ℕ) a, (hin a).2⟩))
        (fun _ => init (Shape.Idx.first hu))
      = BitVec.ofNat 32 (if M ≤ j.val + n.val then f (j.val + n.val - M) else 0) := fun n _ => by
    have hn : n.val < M + 1 := (n.cast (numel2 _)).isLt
    have c0 : ((shape2 1 (M + 1)).rowMajor.symm n 0).val = 0 := by rw [symm2]; rfl
    have c1 : ((shape2 1 (M + 1)).rowMajor.symm n 1).val = n.val := by rw [symm2]; rfl
    have p0 : (ix2 b j 0).val * (![1, 1] : Fin 2 → ℕ) 0 + ((shape2 1 (M + 1)).rowMajor.symm n 0).val = b.val := by
      rw [c0]; exact Nat.mul_one b.val
    have p1 : (ix2 b j 1).val * (![1, 1] : Fin 2 → ℕ) 1 + ((shape2 1 (M + 1)).rowMajor.symm n 1).val = j.val + n.val := by
      rw [c1]; exact congrArg (· + n.val) (Nat.mul_one j.val)
    by_cases hle : M ≤ j.val + n.val
    · rw [if_pos hle, dif_pos (Fin.forall_fin_two.2 ⟨⟨Nat.zero_le _, lt_of_le_of_lt (Nat.sub_le _ _) (lt_of_eq_of_lt p0 hbl)⟩,
        ⟨hle.trans_eq p1.symm, lt_of_eq_of_lt (congrArg (· - M) p1) (show j.val + n.val - M < M + 1 by omega)⟩⟩)]
      refine (congrArg x (funext fun a => Fin.ext ?_)).trans (hx ⟨j.val + n.val - M, by omega⟩)
      match a with
      | ⟨0, _⟩ => exact congrArg (· - 0) p0
      | ⟨1, _⟩ => exact congrArg (· - M) p1
    · rw [if_neg hle, dif_neg fun hin => hle ((hin 1).1.trans_eq p1)]
      exact hz
  unfold Host.reduceWindow
  refine (foldl_addi_ofNat _ _ (fun n => if M ≤ j.val + n.val then f (j.val + n.val - M) else 0) (fun n _ => ?_) _ 0 hz).trans ?_
  · exact hterm n _
  rw [Nat.zero_add, map_finRange_val _ fun w => if M ≤ j.val + w then f (j.val + w - M) else 0]
  exact congrArg _ ((congrArg (fun k => ((List.range k).map fun w => if M ≤ j.val + w then f (j.val + w - M) else 0).sum)
    (numel2 (M + 1))).trans (sum_window f M j.val (by omega)))

open Cert.ReferenceIdeal Cert.ReferenceIdeal.Gen

/-- The take along the rows: the entry of its own row that the index names. -/
theorem take_along {α : Type} (x : S4x4096.Idx → α) (idx : IVec S4x4096x1 32) (b : Fin 4) (s t : Fin 4096)
    (h : idx (ix3 b s (0 : Fin 1)) = BitVec.ofNat 32 t.val) :
    Host.gather gather_S4x4096_S4x4096x1_S4x4096_n_1_0_0_1_2_11 x idx (ix2 b s) = x (ix2 b t) := by
  unfold Host.gather
  refine congrArg x (funext fun a => Fin.ext ?_)
  have hsi : ∀ c, gather_S4x4096_S4x4096x1_S4x4096_n_1_0_0_1_2_11.siIdx (ix2 b s) c = ix3 b s (0 : Fin 1) := fun c => by
    funext a
    match a with
    | ⟨0, _⟩ => rfl
    | ⟨1, _⟩ => rfl
    | ⟨2, _⟩ => exact Subsingleton.elim (α := Fin 1) _ _
  have ht := t.isLt
  match a with
  | ⟨0, _⟩ =>
    show 0 + b.val + 0 = b.val
    omega
  | ⟨1, _⟩ =>
    show min (idx (gather_S4x4096_S4x4096x1_S4x4096_n_1_0_0_1_2_11.siIdx (ix2 b s) _)).toInt.toNat 4095 + 0 + 0 = t.val
    rw [hsi, h, StableHlo.Predicate.toInt_ofNat_small _ (by omega)]
    omega

/-- The take of whole rows: the row of the table that the index names. -/
theorem take_rows {α : Type} (x : S8192x2048.Idx → α) (idx : IVec S4x4096x1 32) (b : Fin 4) (s : Fin 4096) (k : Fin 2048)
    (t : Fin 8192) (h : idx (ix3 b s (0 : Fin 1)) = BitVec.ofNat 32 t.val) :
    Host.gather gather_S8192x2048_S4x4096x1_S4x4096x2048_2_0_n_n_0_2_12048 x idx (ix3 b s k) = x (ix2 t k) := by
  unfold Host.gather
  refine congrArg x (funext fun a => Fin.ext ?_)
  have hsi : ∀ c, gather_S8192x2048_S4x4096x1_S4x4096x2048_2_0_n_n_0_2_12048.siIdx (ix3 b s k) c = ix3 b s (0 : Fin 1) := fun c => by
    funext a
    match a with
    | ⟨0, _⟩ => rfl
    | ⟨1, _⟩ => rfl
    | ⟨2, _⟩ => exact Subsingleton.elim (α := Fin 1) _ _
  have ht := t.isLt
  match a with
  | ⟨0, _⟩ =>
    show min (idx (gather_S8192x2048_S4x4096x1_S4x4096x2048_2_0_n_n_0_2_12048.siIdx (ix3 b s k) _)).toInt.toNat 8191 + 0 + 0 = t.val
    rw [hsi, h, StableHlo.Predicate.toInt_ofNat_small _ (by omega)]
    omega
  | ⟨1, _⟩ =>
    show 0 + 0 + k.val = k.val
    omega

end Cert.Proof.RefOps
-- ==== Proof.Runs.lean ====
/- The runs of digits of one row of ids, without any program.

The reference counts, at each word, the runs of digits that have begun, and finds a digit's position as its distance
from the start of its own run, one for the start itself. The lemmas here say that this is the position of `Pos`. -/
module

public import proofs.«01_k».proof.Proof.Pos
public import Idealize.ShloMosaic.Lib.Routing.Ops

@[expose] public section

set_option maxRecDepth 16384

noncomputable section

namespace Cert.Proof.Runs

open Cert.Proof.Pos

/-- The word at `j` is a digit. -/
abbrev Dg (a : ℕ → BitVec 32) (j : ℕ) : Prop := (a j).slt 10#32 = true

/-- A run of digits starts at `j`. -/
abbrev St (a : ℕ → BitVec 32) (j : ℕ) : Prop := Dg a j ∧ (j = 0 ∨ ¬ Dg a (j - 1))

/-- How many runs have started at or before `j`. -/
def seg (a : ℕ → BitVec 32) (j : ℕ) : ℕ := Nat.count (St a) (j + 1)

theorem seg_succ (a : ℕ → BitVec 32) (j : ℕ) : seg a (j + 1) = seg a j + if St a (j + 1) then 1 else 0 := by
  unfold seg; rw [Nat.count_succ]

/-- Two starts with as many starts before them are one. -/
theorem start_unique {a : ℕ → BitVec 32} {i j : ℕ} (hi : St a i) (hj : St a j) (h : seg a i = seg a j) : i = j := by
  unfold seg at h
  rw [Nat.count_succ, Nat.count_succ, if_pos hi, if_pos hj] at h
  exact Nat.count_injective hi hj (by omega)

/-- A digit's run has a start, and its position counts from there. -/
theorem run_start (a : ℕ → BitVec 32) : ∀ j, Dg a j →
    ∃ s, s ≤ j ∧ St a s ∧ seg a s = seg a j ∧ posOf a j = j - s + 1
  | 0, h => ⟨0, le_refl _, ⟨h, Or.inl rfl⟩, rfl, by rw [posOf_zero, if_pos h]⟩
  | j + 1, h => by
    by_cases h' : Dg a j
    · obtain ⟨s, hs, h1, h2, h3⟩ := run_start a j h'
      refine ⟨s, by omega, h1, ?_, ?_⟩
      · rw [seg_succ, if_neg (fun hs => hs.2.elim (fun e => by omega) fun e => e h'), h2, Nat.add_zero]
      · rw [posOf_succ, if_pos h, h3]; omega
    · refine ⟨j + 1, le_refl _, ⟨h, Or.inr h'⟩, rfl, ?_⟩
      rw [posOf_succ, if_pos h]
      cases j with
      | zero => rw [posOf_zero, if_neg h']
      | succ j => rw [posOf_succ, if_neg h']; omega

/-- No digit, no position. -/
theorem posOf_nondigit (a : ℕ → BitVec 32) (j : ℕ) (h : ¬ Dg a j) : posOf a j = 0 := by
  cases j with
  | zero => rw [posOf_zero, if_neg h]
  | succ j => rw [posOf_succ, if_neg h]

/-- Past the first word there are no more starts than words before: no two starts are neighbours. -/
theorem seg_le (a : ℕ → BitVec 32) : ∀ j, seg a (j + 1) ≤ j + 1
  | 0 => by
    have h0 : seg a 0 = if St a 0 then 1 else 0 := by unfold seg; rw [Nat.count_succ]; simp
    rw [seg_succ, h0]
    by_cases h : Dg a 0
    · rw [if_neg (c := St a (0 + 1)) (fun hs => hs.2.elim (fun e => by omega) fun e => e h)]; split <;> omega
    · rw [if_neg (c := St a 0) (fun hs => h hs.1)]; split <;> omega
  | j + 1 => by have := seg_le a j; rw [seg_succ]; split <;> omega

theorem seg_lt (a : ℕ → BitVec 32) (j : ℕ) (h : j < 4096) : seg a j < 4096 := by
  cases j with
  | zero => have : seg a 0 ≤ 1 := by unfold seg; exact Nat.count_le _
            omega
  | succ j => have := seg_le a j; omega

/-- A left fold whose steps change nothing but for one makes that one step. -/
theorem foldl_one {α β : Type} [DecidableEq α] (g : β → α → β) (n0 : α) (h : ∀ b n, n ≠ n0 → g b n = b) :
    ∀ (l : List α) (b : β), l.Nodup → l.foldl g b = if n0 ∈ l then g b n0 else b
  | [], b, _ => by simp
  | n :: l, b, hl => by
    have hl' := List.nodup_cons.1 hl
    rw [List.foldl_cons, foldl_one g n0 h l _ hl'.2]
    by_cases e : n = n0
    · subst e; rw [if_neg hl'.1, if_pos List.mem_cons_self]
    · rw [h b n e]
      refine if_congr ?_ rfl rfl
      rw [List.mem_cons]
      exact ⟨Or.inr, fun h => h.resolve_left fun e' => e e'.symm⟩

end Cert.Proof.Runs
-- ==== Proof.Ref.lean ====
/- The reference's result, element by element: it takes the row of the table that the position names, as long as no id
is negative. Each named value of the reference is read at an index, from the mask of the digits to the positions. -/
module

public import proofs.«01_k».proof.Proof.RefOps
public import proofs.«01_k».proof.Proof.Runs
public import proofs.«01_k».proof.Proof.Setup
public import Idealize.ShloMosaic.Lib.Pointwise
public import Idealize.ShloMosaic.Lib.Tactic.CleanTypes

@[expose] public section

set_option maxRecDepth 16384

noncomputable section

namespace Cert.Proof.Ref

open Idealize.ShloMosaic Idealize.ShloMosaic.Routing
open Cert.ReferenceIdeal Cert.ReferenceIdeal.Gen Cert.ReferenceIdeal.Value
open Cert.Proof.Pos Cert.Proof.Runs Cert.Proof.RefOps Cert.Proof.Setup

variable {F : FTy → Type} [FloatOps F]
variable (V : Valuation τ sig (Elt F)) (X : S4x4096.Idx → BitVec 32)

theorem rowOf_at (b : Fin 4) (s : Fin 4096) : rowOf X b.val s.val = X (ValueIdx.ix2 b s) := by
  unfold rowOf
  rw [dif_pos ⟨b.isLt, s.isLt⟩]
  refine congrArg X (funext fun a => ?_)
  match a with
  | ⟨0, _⟩ => rfl
  | ⟨1, _⟩ => rfl

theorem bit_iff (x : BitVec 1) (p : Prop) [Decidable p] (h : x = 1#1 ↔ p) : x = if p then 1#1 else 0#1 := by
  split
  · exact h.2 ‹_›
  · exact (BitVec.eq_zero_or_eq_one x).resolve_right fun e => absurd (h.1 e) ‹_›

/-- A word that is not negative is below ten when it is one of ten. -/
theorem digit_iff (x : BitVec 32) (h : 0 ≤ x.toInt) : (∃ k : Fin 10, x = BitVec.ofNat 32 k.val) ↔ x.slt 10#32 = true := by
  rw [BitVec.slt, decide_eq_true_eq, show (10#32 : BitVec 32).toInt = 10 from by decide]
  constructor
  · rintro ⟨k, rfl⟩
    have := k.isLt
    rw [StableHlo.Predicate.toInt_ofNat_small _ (by omega)]
    omega
  · intro hlt
    have h1 : x.toNat < 10 := by
      rw [BitVec.toInt_eq_toNat_cond] at h hlt
      split at h <;> split at hlt <;> omega
    exact ⟨⟨x.toNat, h1⟩, by simp⟩

variable (hX : (V (Proc.devRef .tc main_arg0) : S4x4096.Idx → BitVec 32) = X) (hnn : ∀ i, 0 ≤ (X i).toInt)

include hX hnn

/-- The mask of the digits. -/
theorem v2_at (b : Fin 4) (s : Fin 4096) :
    (res_main_v2 V : S4x4096.Idx → BitVec 1) (ValueIdx.ix2 b s) = if Dg (rowOf X b.val) s.val then 1#1 else 0#1 := by
  refine bit_iff _ _ ?_
  unfold Dg
  rw [rowOf_at, ← digit_iff _ (hnn _)]
  unfold res_main_v2
  rw [hX]
  clean_types
  pointwise
  rw [fold_ori]
  have e : ∀ (h1) (h2), (ix2 ⟨((ValueIdx.ix2 b s 0).val * 4096 + (ValueIdx.ix2 b s 1).val) / 4096, h1⟩
      ⟨((ValueIdx.ix2 b s 0).val * 4096 + (ValueIdx.ix2 b s 1).val) % 4096, h2⟩ : S4x4096.Idx) = ValueIdx.ix2 b s := fun h1 h2 => by
    have hs := s.isLt
    funext a
    match a with
    | ⟨0, _⟩ => exact Fin.ext (show (b.val * 4096 + s.val) / 4096 = b.val by omega)
    | ⟨1, _⟩ => exact Fin.ext (show (b.val * 4096 + s.val) % 4096 = s.val by omega)
  constructor
  · rintro ⟨k, -, hk⟩
    exact ⟨k, (congrArg X (e _ _)).symm.trans (IntOp.cmpi_eq.mp hk)⟩
  · rintro ⟨k, hk⟩
    exact ⟨k, Finset.mem_univ _, IntOp.cmpi_eq.mpr ((congrArg X (e _ _)).trans hk)⟩

/-- The starts of the runs. -/
theorem v7_at (b : Fin 4) (s : Fin 4096) :
    (res_main_v7 V : S4x4096.Idx → BitVec 1) (ValueIdx.ix2 b s) = if St (rowOf X b.val) s.val then 1#1 else 0#1 := by
  have hv := v2_at V X hX hnn b
  unfold res_main_v7
  generalize res_main_v2 V = v at hv ⊢
  clean_types
  change S4x4096.Idx → BitVec 1 at v
  pointwise
  simp only [ix2_eq_valueIdx]
  rw [hv s]
  by_cases h0 : s.val < 1
  · rw [dif_pos (show ((ValueIdx.ix2 b s 1) : Fin 4096).val < 1 from h0)]
    by_cases hd : Dg (rowOf X b.val) s.val
    · rw [if_pos hd, if_pos ⟨hd, Or.inl (by omega)⟩]; rfl
    · rw [if_neg hd, if_neg fun h => hd h.1]; rfl
  · rw [dif_neg (show ¬ ((ValueIdx.ix2 b s 1) : Fin 4096).val < 1 from h0)]
    rw [show ∀ h, v (ValueIdx.ix2 (ValueIdx.ix2 b s 0) ⟨(ValueIdx.ix2 b s 1).val - 1, h⟩) = _ from fun h => hv ⟨s.val - 1, by omega⟩]
    by_cases hd : Dg (rowOf X b.val) s.val <;> by_cases hp : Dg (rowOf X b.val) (s.val - 1)
    · rw [if_pos hd, if_pos hp, if_neg fun h => h.2.elim (fun e => by omega) fun e => e hp]; rfl
    · rw [if_pos hd, if_neg hp, if_pos ⟨hd, Or.inr hp⟩]; rfl
    · rw [if_neg hd, if_pos hp, if_neg fun h => hd h.1]; rfl
    · rw [if_neg hd, if_neg hp, if_neg fun h => hd h.1]; rfl

omit hX hnn in
theorem sum_count (p : ℕ → Prop) [DecidablePred p] : ∀ n, ((List.range n).map fun i => if p i then 1 else 0).sum = Nat.count p n
  | 0 => by simp
  | n + 1 => by rw [List.range_succ, List.map_append, List.sum_append, sum_count p n, Nat.count_succ]; simp

/-- The runs started. -/
theorem v9_at (b : Fin 4) (s : Fin 4096) :
    (res_main_v9 V : S4x4096.Idx → BitVec 32) (ValueIdx.ix2 b s) = BitVec.ofNat 32 (seg (rowOf X b.val) s.val) := by
  have hv := v7_at V X hX hnn b
  unfold res_main_v9
  generalize res_main_v7 V = v at hv ⊢
  change S4x4096.Idx → BitVec 1 at v
  refine (rows_cumsum (R := 4) (N := 4096) (M := 4095) rfl _ b (fun i => if St (rowOf X b.val) i then 1 else 0) (fun i => ?_) _
    (fun i => rfl) _ _ s).trans ?_
  · show (v (ValueIdx.ix2 b i)).setWidth 32 = _
    rw [hv i]
    split <;> rfl
  · rw [sum_count]; rfl

omit hX hnn in
theorem v11_at (b : Fin 4) (s : Fin 4096) :
    (res_main_v11 V : S4x4096.Idx → BitVec 32) (ValueIdx.ix2 b s) = BitVec.ofNat 32 s.val := by
  unfold res_main_v11
  clean_types
  pointwise

omit hX hnn in
theorem v16_at (b : Fin 4) (s : Fin 4096) :
    (res_main_v16 V : S4x4096.Idx → BitVec 32) (ValueIdx.ix2 b s) = BitVec.ofNat 32 b.val := by
  unfold res_main_v16
  clean_types
  pointwise

omit hX hnn in
/-- A small natural is no negative word, so it is not wrapped. -/
theorem wrap_ofNat (n : ℕ) (h : n < 2 ^ 31) (a : BitVec 32) :
    Scalar.select (IntOp.cmpi .slt (BitVec.ofNat 32 n) 0#32) a (BitVec.ofNat 32 n) = BitVec.ofNat 32 n :=
  wrap_of_lt _ _ (by rw [BitVec.toNat_ofNat]; exact lt_of_le_of_lt (Nat.mod_le _ _) h)

/-- The index of the second take. -/
theorem c2_at (b : Fin 4) (s : Fin 4096) :
    (res_main_call2_v5 V : S4x4096x1.Idx → BitVec 32) (ValueIdx.ix3 b s (0 : Fin 1)) = BitVec.ofNat 32 (seg (rowOf X b.val) s.val) := by
  have hv := v9_at V X hX hnn b s
  have hl := seg_lt (rowOf X b.val) s.val s.isLt
  unfold res_main_call2_v5
  generalize res_main_v9 V = v at hv ⊢
  clean_types
  change S4x4096.Idx → BitVec 32 at v
  pointwise
  simp only [ix2_eq_valueIdx]
  rw [show v (ValueIdx.ix2 (ValueIdx.ix3 b s (0 : Fin 1) 0) (ValueIdx.ix3 b s (0 : Fin 1) 1)) = _ from hv]
  exact wrap_ofNat _ (by omega) _

omit hX hnn in
/-- The scatter's words: an element's row and the runs started there, neither wrapped. -/
theorem idx_at (v16 v9 : S4x4096.Idx → BitVec 32) (b : Fin 4) (s : Fin 4096) (n : ℕ) (hn : n < 2 ^ 31)
    (h16 : v16 (ValueIdx.ix2 b s) = BitVec.ofNat 32 b.val) (h9 : v9 (ValueIdx.ix2 b s) = BitVec.ofNat 32 n) (k : Fin 2) :
    (concatenate S4x4096x2 2
                  [⟨S4x4096x1,
                      broadcastInDim S4x4096x1 ![0, 1] bcast_S4x4096_S4x4096x1_0_1
                        (select
                          (cmpi CmpIPredicate.slt v16
                            (broadcastInDim S4x4096 ![] bcast_S_S4x4096 (constantI S_ 32 0#32)))
                          (addi v16 (broadcastInDim S4x4096 ![] bcast_S_S4x4096 (constantI S_ 32 4#32)))
                          v16)⟩,
                    ⟨S4x4096x1,
                      broadcastInDim S4x4096x1 ![0, 1] bcast_S4x4096_S4x4096x1_0_1
                        (select
                          (cmpi CmpIPredicate.slt v9
                            (broadcastInDim S4x4096 ![] bcast_S_S4x4096 (constantI S_ 32 0#32)))
                          (addi v9 (broadcastInDim S4x4096 ![] bcast_S_S4x4096 (constantI S_ 32 4096#32)))
                          v9)⟩]
                  concatenates_S4x4096x1_S4x4096x1_S4x4096x2_d2 : S4x4096x2.Idx → BitVec 32) (ValueIdx.ix3 b s k)
      = BitVec.ofNat 32 (if k.val < 1 then b.val else n) := by
  have hb := b.isLt
  pointwise
  simp only [ix2_eq_valueIdx]
  rw [h16, h9, wrap_ofNat _ (by omega), wrap_ofNat _ hn]
  by_cases hk : k.val < 1
  · rw [if_pos hk, dif_pos (show (ValueIdx.ix3 b s k 2 : Fin 2).val < 1 from hk)]
  · rw [if_neg hk, dif_neg (show ¬ (ValueIdx.ix3 b s k 2 : Fin 2).val < 1 from hk)]

omit hX hnn in
/-- The scatter adds, at a run's number in its row, the start of that run. -/
theorem scatter_start (idx : IVec S4x4096x2 32) (upd : S4x4096.Idx → BitVec 32)
    (h0 : ∀ b s, idx (ValueIdx.ix3 b s 0) = BitVec.ofNat 32 b.val)
    (h1 : ∀ b s, idx (ValueIdx.ix3 b s 1) = BitVec.ofNat 32 (seg (rowOf X b.val) s.val))
    (hu : ∀ b s, upd (ValueIdx.ix2 b s) = if St (rowOf X b.val) s.val then BitVec.ofNat 32 s.val else 0#32)
    (z : S4x4096.Idx → BitVec 32) (hz : ∀ i, z i = 0#32) (b : Fin 4) (j : Fin 4096) (hj : St (rowOf X b.val) j.val)
    (t : Fin 4096) (ht : t.val = seg (rowOf X b.val) j.val) :
    Host.scatter scatter_S4x4096_S4x4096x2_S4x4096_n_01_01_2 IntOp.addi z idx upd (ValueIdx.ix2 b t) = BitVec.ofNat 32 j.val := by
  have hland : ∀ (b' : Fin 4) (s' : Fin 4096), scatter_S4x4096_S4x4096x2_S4x4096_n_01_01_2.resultIdx? (ValueIdx.ix2 b' s') idx
      = some (ValueIdx.ix2 b t) ↔ b' = b ∧ seg (rowOf X b'.val) s'.val = seg (rowOf X b.val) j.val := fun b' s' => by
    have hl := seg_lt (rowOf X b'.val) s'.val s'.isLt
    have hb' := b'.isLt
    refine (scatter_lands2 (R := 4) (C := 4096) (A := 4) (B := 4096) scatter_S4x4096_S4x4096x2_S4x4096_n_01_01_2 rfl rfl rfl idx b' s' b t).trans ?_
    rw [h0, h1, StableHlo.Predicate.toInt_ofNat_small _ (by omega), StableHlo.Predicate.toInt_ofNat_small _ (by omega), ht]
    constructor
    · rintro ⟨e, e'⟩; exact ⟨Fin.ext (by omega), by omega⟩
    · rintro ⟨rfl, e'⟩; exact ⟨rfl, by omega⟩
  have hsym : ∀ n : Fin S4x4096.numel, ∃ b' s', S4x4096.rowMajor.symm n = ValueIdx.ix2 b' s' := fun n =>
    ⟨_, _, ValueIdx.eq_ix2 (n0 := 4) (n1 := 4096) (S4x4096.rowMajor.symm n)⟩
  have hn0 : S4x4096.rowMajor.symm (S4x4096.rowMajor (ValueIdx.ix2 b j)) = ValueIdx.ix2 b j := Equiv.symm_apply_apply _ _
  rw [scatter_at, foldl_one _ (S4x4096.rowMajor (ValueIdx.ix2 b j)) (fun x n hne => ?_) _ _ (List.nodup_finRange _), if_pos (List.mem_finRange _), hn0,
    if_pos ((hland b j).2 ⟨rfl, rfl⟩), hz, hu, if_pos hj]
  · exact BitVec.zero_add _
  · obtain ⟨b', s', e⟩ := hsym n
    rw [e]
    split
    · rename_i hl
      obtain ⟨rfl, hl⟩ := (hland b' s').1 hl
      rw [hu, if_neg fun hs => hne ?_]
      · exact BitVec.add_zero _
      · have : s' = j := Fin.ext (start_unique hs hj hl)
        subst this
        rw [← e, Equiv.apply_symm_apply]
    · rfl

omit hX hnn in
/-- A natural up to the bound is in range. -/
theorem in_range (n m : ℕ) (h : n ≤ m) (hm : m < 2 ^ 31) (f : Fin 1 → BitVec 32) (hf : f 0 = BitVec.ofNat 32 n) :
    Finset.fold IntOp.andi (1#1) (fun x : Fin 1 => IntOp.andi (IntOp.cmpi .sge (f x) 0#32) (IntOp.cmpi .sle (f x) (BitVec.ofNat 32 m)))
      Finset.univ = 1#1 := by
  rw [Finset.univ_unique, Finset.fold_singleton]
  show IntOp.andi (IntOp.andi (IntOp.cmpi .sge (f 0) 0#32) (IntOp.cmpi .sle (f 0) (BitVec.ofNat 32 m))) 1#1 = 1#1
  have h1 : IntOp.cmpi .sge (f 0) 0#32 = 1#1 := IntOp.cmpi_sge.mpr (by
    rw [hf, StableHlo.Predicate.toInt_ofNat_small n (by omega), show (0#32 : BitVec 32).toInt = 0 from by decide]; omega)
  have h2 : IntOp.cmpi .sle (f 0) (BitVec.ofNat 32 m) = 1#1 := IntOp.cmpi_sle.mpr (by
    rw [hf, StableHlo.Predicate.toInt_ofNat_small _ (by omega), StableHlo.Predicate.toInt_ofNat_small _ (by omega)]; omega)
  rw [h1, h2]
  rfl

omit hX hnn in
theorem mask_at (c : S4x4096x1.Idx → BitVec 32) (n m : ℕ) (h : n ≤ m) (hm : m < 2 ^ 31) (b : Fin 4) (s : Fin 4096)
    (hc : c (ValueIdx.ix3 b s (0 : Fin 1)) = BitVec.ofNat 32 n) :
    Host.reduce IntOp.andi (andi (cmpi CmpIPredicate.sge c (broadcastInDim S4x4096x1 ![] bcast_S_S4x4096x1 (constantI S_ 32 0#32)))
        (cmpi CmpIPredicate.sle c (broadcastInDim S4x4096x1 ![0, 1, 2] bcast_S1x1x1_S4x4096x1_0_1_2
          (broadcastInDim S1x1x1 ![2] bcast_S1_S1x1x1_2 (constantI S1 32 (BitVec.ofNat 32 m))))))
      (constantI S_ 1 1#1) reducesTo_S4x4096x1_S4x4096_d2 h_S_ (ValueIdx.ix2 b s) = 1#1 := by
  pointwise
  exact in_range n m h hm (fun x => c (ix3 (ValueIdx.ix2 b s 0) (ValueIdx.ix2 b s 1) x)) (by rw [ix3_eq_valueIdx]; exact hc)

omit hX hnn in
/-- What the positions are made of, at one element that is a digit. -/
theorem pos_form (v11 : S4x4096.Idx → BitVec 32) (r v2 : S4x4096.Idx → BitVec 1) (g f : S4x4096.Idx → BitVec 32) (i : S4x4096.Idx)
    (s j : ℕ) (hj : j ≤ s) (hs : s < 4096) (h11 : v11 i = BitVec.ofNat 32 s) (hr : r i = 1#1) (hg : g i = BitVec.ofNat 32 j) (h2 : v2 i = 1#1) :
    muli (addi (subi v11 (select r g f)) (broadcastInDim S4x4096 ![] bcast_S_S4x4096 (constantI S_ 32 1#32))) (extui 32 v2 natLt_1_32) i
      = BitVec.ofNat 32 (s - j + 1) := by
  show (v11 i - Scalar.select (r i) (g i) (f i) + 1#32) * (v2 i).setWidth 32 = _
  rw [h11, hr, hg, h2]
  show (BitVec.ofNat 32 s - BitVec.ofNat 32 j + 1#32) * 1#32 = _
  rw [BitVec.mul_one]
  apply BitVec.eq_of_toNat_eq
  simp only [BitVec.toNat_add, BitVec.toNat_sub, BitVec.toNat_ofNat]
  omega

omit hX hnn in
theorem zero_form (v : S4x4096.Idx → BitVec 32) (v2 : S4x4096.Idx → BitVec 1) (i : S4x4096.Idx) (h2 : v2 i = 0#1) :
    muli v (extui 32 v2 natLt_1_32) i = BitVec.ofNat 32 0 := by
  show v i * (v2 i).setWidth 32 = _
  rw [h2]
  exact BitVec.mul_zero

/-- The positions. -/
theorem v37_at (b : Fin 4) (s : Fin 4096) :
    (res_main_v37 V : S4x4096.Idx → BitVec 32) (ValueIdx.ix2 b s) = BitVec.ofNat 32 (posOf (rowOf X b.val) s.val) := by
  have h2 := v2_at V X hX hnn
  have h7 := v7_at V X hX hnn
  have h9 := v9_at V X hX hnn
  have hc := c2_at V X hX hnn
  have h11 := v11_at V
  have h16 := v16_at V
  unfold res_main_v37
  generalize res_main_v2 V = v2 at *
  generalize res_main_v7 V = v7 at *
  generalize res_main_v9 V = v9 at *
  generalize res_main_v11 V = v11 at *
  generalize res_main_v16 V = v16 at *
  generalize res_main_call2_v5 V = c2 at *
  clean_types
  change S4x4096.Idx → BitVec 1 at v2 v7
  change S4x4096.Idx → BitVec 32 at v9 v11 v16
  change S4x4096x1.Idx → BitVec 32 at c2
  have hsl := seg_lt (rowOf X b.val) s.val s.isLt
  have hs := s.isLt
  by_cases hd : Dg (rowOf X b.val) s.val
  · obtain ⟨j, hj, hst, hseg, hpos⟩ := run_start (rowOf X b.val) s.val hd
    have hg := take_along (Host.scatter scatter_S4x4096_S4x4096x2_S4x4096_n_01_01_2 IntOp.addi
                (broadcastInDim S4x4096 ![] bcast_S_S4x4096 (constantI S_ 32 0#32)) (concatenate S4x4096x2 2
                  [⟨S4x4096x1,
                      broadcastInDim S4x4096x1 ![0, 1] bcast_S4x4096_S4x4096x1_0_1
                        (select
                          (cmpi CmpIPredicate.slt v16
                            (broadcastInDim S4x4096 ![] bcast_S_S4x4096 (constantI S_ 32 0#32)))
                          (addi v16 (broadcastInDim S4x4096 ![] bcast_S_S4x4096 (constantI S_ 32 4#32)))
                          v16)⟩,
                    ⟨S4x4096x1,
                      broadcastInDim S4x4096x1 ![0, 1] bcast_S4x4096_S4x4096x1_0_1
                        (select
                          (cmpi CmpIPredicate.slt v9
                            (broadcastInDim S4x4096 ![] bcast_S_S4x4096 (constantI S_ 32 0#32)))
                          (addi v9 (broadcastInDim S4x4096 ![] bcast_S_S4x4096 (constantI S_ 32 4096#32)))
                          v9)⟩]
                  concatenates_S4x4096x1_S4x4096x1_S4x4096x2_d2) (muli v11 (extui 32 v7 natLt_1_32)))
      c2 b s ⟨seg (rowOf X b.val) s.val, hsl⟩ (hc b s)
    have hst := scatter_start X _ (muli v11 (extui 32 v7 natLt_1_32))
      (fun b s => idx_at v16 v9 b s (seg (rowOf X b.val) s.val) (by have := seg_lt (rowOf X b.val) s.val s.isLt; omega) (h16 b s) (h9 b s) 0)
      (fun b s => idx_at v16 v9 b s (seg (rowOf X b.val) s.val) (by have := seg_lt (rowOf X b.val) s.val s.isLt; omega) (h16 b s) (h9 b s) 1)
      (fun b s => by
        show v11 (ValueIdx.ix2 b s) * (v7 (ValueIdx.ix2 b s)).setWidth 32 = _
        rw [h11, h7]
        split
        · exact BitVec.mul_one _
        · exact BitVec.mul_zero)
      (broadcastInDim S4x4096 ![] bcast_S_S4x4096 (constantI S_ 32 0#32)) (fun _ => rfl) b ⟨j, by omega⟩ hst
      ⟨seg (rowOf X b.val) s.val, hsl⟩ hseg.symm
    rw [hpos]
    exact pos_form v11 _ v2 _ _ _ s.val j hj hs (h11 b s) (mask_at c2 _ 4095 (by omega) (by omega) b s (hc b s)) (hg.trans hst)
      ((h2 b s).trans (if_pos hd))
  · rw [posOf_nondigit _ _ hd]
    exact zero_form _ v2 _ ((h2 b s).trans (if_neg hd))

/-- The index of the last take. -/
theorem c3_at (b : Fin 4) (s : Fin 4096) :
    (res_main_call3_v5 V : S4x4096x1.Idx → BitVec 32) (ValueIdx.ix3 b s (0 : Fin 1)) = BitVec.ofNat 32 (posOf (rowOf X b.val) s.val) := by
  have hv := v37_at V X hX hnn b s
  have hl := posOf_le (rowOf X b.val) s.val
  have hs := s.isLt
  unfold res_main_call3_v5
  generalize res_main_v37 V = v at hv ⊢
  clean_types
  change S4x4096.Idx → BitVec 32 at v
  pointwise
  simp only [ix2_eq_valueIdx]
  rw [show v (ValueIdx.ix2 (ValueIdx.ix3 b s (0 : Fin 1) 0) (ValueIdx.ix3 b s (0 : Fin 1) 1)) = _ from hv]
  exact wrap_ofNat _ (by omega) _

omit hX hnn in
theorem select_of_mask (r : S4x4096x2048.Idx → BitVec 1) (g z : S4x4096x2048.Idx → F .f32) (i : S4x4096x2048.Idx) (h : r i = 1#1) :
    select r g z i = g i := by
  show Scalar.select (r i) (g i) (z i) = g i
  rw [h]; rfl

/-- The result: at every element, the table's row that the position names. -/
theorem result_at (b : Fin 4) (s : Fin 4096) (k : Fin 2048) (t : Fin 8192) (ht : t.val = posOf (rowOf X b.val) s.val)
    (W : S8192x2048.Idx → F .f32) (z : S4x4096x2048.Idx → F .f32) :
    (select (broadcastInDim S4x4096x2048 ![0, 1] bcast_S4x4096_S4x4096x2048_0_1 (Host.reduce IntOp.andi (andi (cmpi .sge (res_main_call3_v5 V : S4x4096x1.Idx → BitVec 32) (broadcastInDim S4x4096x1 ![] bcast_S_S4x4096x1 (constantI S_ 32 0#32))) (cmpi .sle (res_main_call3_v5 V : S4x4096x1.Idx → BitVec 32) (broadcastInDim S4x4096x1 ![0, 1, 2] bcast_S1x1x1_S4x4096x1_0_1_2 (broadcastInDim S1x1x1 ![2] bcast_S1_S1x1x1_2 (constantI S1 32 8191#32))))) (constantI S_ 1 1#1) reducesTo_S4x4096x1_S4x4096_d2 h_S_)) (Host.gather gather_S8192x2048_S4x4096x1_S4x4096x2048_2_0_n_n_0_2_12048 W (res_main_call3_v5 V : S4x4096x1.Idx → BitVec 32)) z : S4x4096x2048.Idx → F .f32) (ValueIdx.ix3 b s k)
      = W (ValueIdx.ix2 t k) := by
  have hc := c3_at V X hX hnn
  generalize (res_main_call3_v5 V : S4x4096x1.Idx → BitVec 32) = c at hc ⊢
  change S4x4096x1.Idx → BitVec 32 at c
  have htl := t.isLt
  have hg := take_rows W c b s k t (by rw [ht]; exact hc b s)
  have hr := mask_at c t.val 8191 (by omega) (by omega) b s (by rw [ht]; exact hc b s)
  generalize Host.gather gather_S8192x2048_S4x4096x1_S4x4096x2048_2_0_n_n_0_2_12048 W c = g at hg ⊢
  rw [← hg]
  refine select_of_mask _ g z (ValueIdx.ix3 b s k) ?_
  refine (broadcastInDim_apply _ _ _ _ (ValueIdx.ix2 b s) (fun a => ?_)).trans hr
  match a with
  | ⟨0, _⟩ => rfl
  | ⟨1, _⟩ => rfl

end Cert.Proof.Ref
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Value
public import proofs.«01_k».proof.Proof.Ref
public import Idealize.ShloMosaic.Lib.Quiescent
public import Idealize.ShloMosaic.Lib.ReduceAll

@[expose] public section

noncomputable section

namespace Cert.Proof

open Idealize.ShloMosaic Idealize.SL.Sem

/-- The reference declares no semaphore and writes no argument. -/
theorem frame_ref : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The shape relations of the precondition. -/
theorem facts_pre : Cert.Pre_ids_nonneg.Facts := ⟨by decide, by decide, by decide⟩

/-- The precondition says of every id that it is not negative. -/
theorem ids_of_pre (x : Cert.Pre_ids_nonneg.S4x4096.Idx → BitVec 32) (w : Cert.Pre_ids_nonneg.S8192x2048.Idx → EReal)
    (h : @Cert.Pre_ids_nonneg.fn facts_pre Ideal _ x w = fun _ => 1#1) : ∀ i, 0 ≤ (x i).toInt := fun i =>
  IntOp.cmpi_sge.1 (Host.reduce_andi_all _ _ _ _ ValueIdx.ix0 (congrFun h ValueIdx.ix0) i)

/-- The kernel's result is the reference's. -/
theorem algebraic : Cert.algebraic_KernelIdeal_ReferenceIdeal_pre_ids_nonneg (hPre_ids_nonneg := facts_pre) := by
  intro m g m' g' hpre hargs
  refine ⟨fun c => Launch.res m c, ?_, ?_⟩
  · exact (θ_run Cert.KernelIdeal.defs _ _).mono (fun r h c => ⟨(h.1 c).2.2, (h.1 c).1, (h.1 c).2.1⟩) (Launch.run_main (F := Ideal) m g)
  · refine (θ_run Cert.ReferenceIdeal.defs _ _).mono (fun r h c => ⟨(h c).1.trans ?_, (h c).2.1, (h c).2.2⟩)
      (Cert.ReferenceIdeal.Value.run (F := Ideal) m' g')
    have hnn := ids_of_pre _ _ (hpre c)
    have hx := (hargs c).1
    have hw := (hargs c).2
    funext i
    obtain ⟨b, s, k, rfl⟩ : ∃ (b : Fin 4) (s : Fin 4096) (k : Fin 2048), i = ValueIdx.ix3 b s k :=
      ⟨_, _, _, ValueIdx.eq_ix3 (n0 := 4) (n1 := 4096) (n2 := 2048) i⟩
    refine (Ref.result_at (StableHlo.launchContents m' c) _ hx hnn b s k
      ⟨Pos.posOf (Setup.rowOf (m (Setup.xLoc c)) b.val) s.val, Value.pos_lt _ s⟩ rfl _ _).trans ?_
    refine Eq.trans ?_ (Value.res_row m c b s k).symm
    exact congrFun hw _

theorem claim : Cert.Claim :=
  ⟨Cert.Kernel.Gen.facts, Cert.KernelIdeal.Gen.facts, Cert.ReferenceIdeal.Gen.facts, facts_pre,
    Frame.frame_kernel, Frame.frame_ideal, fun m ρ _ => Frame.frame_ideal m ρ trivial,
    frame_ref, fun m ρ _ => frame_ref m ρ trivial, trivial, algebraic⟩

end Cert.Proof

end
